-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_hw" .f32 0x3BA72F05#32 ((1 / 196 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x2048x14x14 : Shape := ⟨4, ![64, 2048, 14, 14]⟩
abbrev S32x2048 : Shape := ⟨2, ![32, 2048]⟩
abbrev S32 : Shape := ⟨1, ![32]⟩
abbrev S8x4096 : Shape := ⟨2, ![8, 4096]⟩
abbrev S8 : Shape := ⟨1, ![8]⟩
abbrev S_ : Shape := ⟨0, ![]⟩

class Facts : Prop where
  bcast_S_S64x2048x14x14 : S_.BroadcastsInDim S64x2048x14x14 (![] : Fin 0 → Fin S64x2048x14x14.rank)
  reducesTo_S64x2048x14x14_S_d0_1_2_3 : S64x2048x14x14.ReducesTo [0, 1, 2, 3] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S32 : S_.BroadcastsInDim S32 (![] : Fin 0 → Fin S32.rank)
  reducesTo_S32_S_d0 : S32.ReducesTo [0] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S64x2048x14x14 .f32) (main_arg1 : FVec F S32x2048 .f32) (main_arg2 : FVec F S32 .f32) (main_arg3 : FVec F S8x4096 .f32) (main_arg4 : FVec F S8 .f32) : IVec S_ 1 :=
  let main_v0 : FVec F S64x2048x14x14 .f32 := Host.absf main_arg0
  let main_cst : FVec F S_ .f32 := constant S_ .f32 0x7F800000#32
  let main_v1 : FVec F S64x2048x14x14 .f32 := broadcastInDim S64x2048x14x14 ![] bcast_S_S64x2048x14x14 main_cst
  let main_v2 : IVec S64x2048x14x14 1 := cmpf .olt main_v0 main_v1
  let main_c : IVec S_ 1 := constantI S_ 1 1#1
  let main_v3 : IVec S_ 1 := (fun x v => Host.reduce IntOp.andi x v reducesTo_S64x2048x14x14_S_d0_1_2_3 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S64x2048x14x14 : Shape := ⟨4, ![64, 2048, 14, 14]⟩
abbrev S32x2048 : Shape := ⟨2, ![32, 2048]⟩
abbrev S32 : Shape := ⟨1, ![32]⟩
abbrev S8x4096 : Shape := ⟨2, ![8, 4096]⟩
abbrev S8 : Shape := ⟨1, ![8]⟩
abbrev S14x14x64x2048 : Shape := ⟨4, ![14, 14, 64, 2048]⟩
abbrev S196x64x2048 : Shape := ⟨3, ![196, 64, 2048]⟩
abbrev S8x2048 : Shape := ⟨2, ![8, 2048]⟩
abbrev S48x2048 : Shape := ⟨2, ![48, 2048]⟩
abbrev S2048x48 : Shape := ⟨2, ![2048, 48]⟩
abbrev S_ : Shape := ⟨0, ![]⟩
abbrev S16 : Shape := ⟨1, ![16]⟩
abbrev S48 : Shape := ⟨1, ![48]⟩
abbrev S1x48 : Shape := ⟨2, ![1, 48]⟩
abbrev S1x8 : Shape := ⟨2, ![1, 8]⟩
abbrev S64x8 : Shape := ⟨2, ![64, 8]⟩
abbrev S28x32x2048 : Shape := ⟨3, ![28, 32, 2048]⟩
abbrev S32x8 : Shape := ⟨2, ![32, 8]⟩
abbrev S7x896x48 : Shape := ⟨3, ![7, 896, 48]⟩
abbrev S896x2048 : Shape := ⟨2, ![896, 2048]⟩
abbrev S896x48 : Shape := ⟨2, ![896, 48]⟩
abbrev S1x896x48 : Shape := ⟨3, ![1, 896, 48]⟩
abbrev S196x32x48 : Shape := ⟨3, ![196, 32, 48]⟩
abbrev S32x48 : Shape := ⟨2, ![32, 48]⟩
abbrev S48x8 : Shape := ⟨2, ![48, 8]⟩
abbrev S8x48 : Shape := ⟨2, ![8, 48]⟩
abbrev S32x1 : Shape := ⟨2, ![32, 1]⟩
abbrev S1x32x1 : Shape := ⟨3, ![1, 32, 1]⟩
abbrev S1x32x48 : Shape := ⟨3, ![1, 32, 48]⟩
abbrev S196x32 : Shape := ⟨2, ![196, 32]⟩
abbrev S196x32x1 : Shape := ⟨3, ![196, 32, 1]⟩

abbrev nBuf : Space → Nat
  | .hbm => 18
  | .vmem => 10
  | .smem => 0
  | _ => 0

abbrev bufTy : (tb : Table) → Fin (tcTables nBuf tb) → BufTy
  | .hbm, ⟨0, _⟩ => ⟨S64x2048x14x14, .f32⟩
  | .hbm, ⟨1, _⟩ => ⟨S32x2048, .f32⟩
  | .hbm, ⟨2, _⟩ => ⟨S32, .f32⟩
  | .hbm, ⟨3, _⟩ => ⟨S8x4096, .f32⟩
  | .hbm, ⟨4, _⟩ => ⟨S8, .f32⟩
  | .hbm, ⟨5, _⟩ => ⟨S14x14x64x2048, .f32⟩
  | .hbm, ⟨6, _⟩ => ⟨S196x64x2048, .f32⟩
  | .hbm, ⟨7, _⟩ => ⟨S8x2048, .f32⟩
  | .hbm, ⟨8, _⟩ => ⟨S8x2048, .f32⟩
  | .hbm, ⟨9, _⟩ => ⟨S48x2048, .f32⟩
  | .hbm, ⟨10, _⟩ => ⟨S2048x48, .f32⟩
  | .hbm, ⟨11, _⟩ => ⟨S_, .f32⟩
  | .hbm, ⟨12, _⟩ => ⟨S16, .f32⟩
  | .hbm, ⟨13, _⟩ => ⟨S48, .f32⟩
  | .hbm, ⟨14, _⟩ => ⟨S1x48, .f32⟩
  | .hbm, ⟨15, _⟩ => ⟨S1x8, .f32⟩
  | .hbm, ⟨16, _⟩ => ⟨S64x8, .f32⟩
  | .hbm, ⟨17, _⟩ => ⟨S64x8, .f32⟩
  | .local _ .vmem, ⟨0, _⟩ => ⟨S28x32x2048, .f32⟩
  | .local _ .vmem, ⟨1, _⟩ => ⟨S28x32x2048, .f32⟩
  | .local _ .vmem, ⟨2, _⟩ => ⟨S2048x48, .f32⟩
  | .local _ .vmem, ⟨3, _⟩ => ⟨S1x48, .f32⟩
  | .local _ .vmem, ⟨4, _⟩ => ⟨S1x8, .f32⟩
  | .local _ .vmem, ⟨5, _⟩ => ⟨S32x8, .f32⟩
  | .local _ .vmem, ⟨6, _⟩ => ⟨S32x8, .f32⟩
  | .local _ .vmem, ⟨7, _⟩ => ⟨S32x8, .f32⟩
  | .local _ .vmem, ⟨8, _⟩ => ⟨S32x8, .f32⟩
  | .local _ .vmem, ⟨9, _⟩ => ⟨S7x896x48, .f32⟩
  | _, _ => ⟨S64x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 7], ![false, false]⟩

def k0_off1 (i : grid0.Coords) : Fin 3 → Nat :=
  let arg1 : BitVec 32 := BitVec.ofNat 32 (i 1).val
  let v6 : Index := Scalar.indexCast arg1
  let c0_4 : Index := 0#32
  let c0_5 : Index := 0#32
  ![v6.toNat, 0, 0]
def k0_cond1 (i : grid0.Coords) : BitVec 1 :=
  let arg1 : BitVec 32 := BitVec.ofNat 32 (i 1).val
  let c6_i32 : BitVec 32 := 6#32
  let v10 : BitVec 1 := Scalar.cmpi .eq arg1 c6_i32
  let v11 : BitVec 32 := Scalar.extui v10
  let c0_i32 : BitVec 32 := 0#32
  let v12 : BitVec 1 := Scalar.cmpi .ne v11 c0_i32
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S28x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "inv_hw" => some ((1 / 196 : ℝ) : EReal)
  | _ => none
-- ==== ReferenceIdeal.lean ====
abbrev S64x2048x14x14 : Shape := ⟨4, ![64, 2048, 14, 14]⟩
abbrev S32x2048 : Shape := ⟨2, ![32, 2048]⟩
abbrev S32 : Shape := ⟨1, ![32]⟩
abbrev S8x4096 : Shape := ⟨2, ![8, 4096]⟩
abbrev S8 : Shape := ⟨1, ![8]⟩
abbrev S32x64x14x14 : Shape := ⟨4, ![32, 64, 14, 14]⟩
abbrev S64x32x14x14 : Shape := ⟨4, ![64, 32, 14, 14]⟩
abbrev S1x32x1x1 : Shape := ⟨4, ![1, 32, 1, 1]⟩
abbrev S_ : Shape := ⟨0, ![]⟩
abbrev S64x32 : Shape := ⟨2, ![64, 32]⟩
abbrev S64x8x4 : Shape := ⟨3, ![64, 8, 4]⟩
abbrev S64x8 : Shape := ⟨2, ![64, 8]⟩
abbrev S64x8x4x14x14 : Shape := ⟨5, ![64, 8, 4, 14, 14]⟩
abbrev S64x8x14x14 : Shape := ⟨4, ![64, 8, 14, 14]⟩
abbrev S64x8x1x1 : Shape := ⟨4, ![64, 8, 1, 1]⟩
abbrev S64x1x8x14x14 : Shape := ⟨5, ![64, 1, 8, 14, 14]⟩
abbrev S64x1x14x14 : Shape := ⟨4, ![64, 1, 14, 14]⟩
abbrev S64x4096x14x14 : Shape := ⟨4, ![64, 4096, 14, 14]⟩
abbrev S64x4096 : Shape := ⟨2, ![64, 4096]⟩
abbrev S4096x8 : Shape := ⟨2, ![4096, 8]⟩
abbrev S1x8 : Shape := ⟨2, ![1, 8]⟩

abbrev nBuf : Space → Nat
  | .hbm => 46
  | .vmem => 0
  | .smem => 0
  | _ => 0

abbrev bufTy : (tb : Table) → Fin (tcTables nBuf tb) → BufTy
  | .hbm, ⟨0, _⟩ => ⟨S64x2048x14x14, .f32⟩
  | .hbm, ⟨1, _⟩ => ⟨S32x2048, .f32⟩
  | .hbm, ⟨2, _⟩ => ⟨S32, .f32⟩
  | .hbm, ⟨3, _⟩ => ⟨S8x4096, .f32⟩
  | .hbm, ⟨4, _⟩ => ⟨S8, .f32⟩
  | .hbm, ⟨5, _⟩ => ⟨S32x64x14x14, .f32⟩
  | .hbm, ⟨6, _⟩ => ⟨S64x32x14x14, .f32⟩
  | .hbm, ⟨7, _⟩ => ⟨S1x32x1x1, .f32⟩
  | .hbm, ⟨8, _⟩ => ⟨S64x32x14x14, .f32⟩
  | .hbm, ⟨9, _⟩ => ⟨S64x32x14x14, .f32⟩
  | .hbm, ⟨10, _⟩ => ⟨S_, .f32⟩
  | .hbm, ⟨11, _⟩ => ⟨S64x32, .f32⟩
  | .hbm, ⟨12, _⟩ => ⟨S64x8x4, .f32⟩
  | .hbm, ⟨13, _⟩ => ⟨S_, .f32⟩
  | .hbm, ⟨14, _⟩ => ⟨S64x8, .f32⟩
  | .hbm, ⟨15, _⟩ => ⟨S_, .f32⟩
  | .hbm, ⟨16, _⟩ => ⟨S64x8, .f32⟩
  | .hbm, ⟨17, _⟩ => ⟨S64x8, .f32⟩
  | .hbm, ⟨18, _⟩ => ⟨S64x8x4x14x14, .f32⟩
  | .hbm, ⟨19, _⟩ => ⟨S_, .f32⟩
  | .hbm, ⟨20, _⟩ => ⟨S64x8x14x14, .f32⟩
  | .hbm, ⟨21, _⟩ => ⟨S_, .f32⟩
  | .hbm, ⟨22, _⟩ => ⟨S64x8x14x14, .f32⟩
  | .hbm, ⟨23, _⟩ => ⟨S64x8x14x14, .f32⟩
  | .hbm, ⟨24, _⟩ => ⟨S64x8x1x1, .f32⟩
  | .hbm, ⟨25, _⟩ => ⟨S64x8x14x14, .f32⟩
  | .hbm, ⟨26, _⟩ => ⟨S64x8x14x14, .f32⟩
  | .hbm, ⟨27, _⟩ => ⟨S64x1x8x14x14, .f32⟩
  | .hbm, ⟨28, _⟩ => ⟨S_, .f32⟩
  | .hbm, ⟨29, _⟩ => ⟨S64x1x14x14, .f32⟩
  | .hbm, ⟨30, _⟩ => ⟨S_, .f32⟩
  | .hbm, ⟨31, _⟩ => ⟨S64x1x14x14, .f32⟩
  | .hbm, ⟨32, _⟩ => ⟨S64x1x14x14, .f32⟩
  | .hbm, ⟨33, _⟩ => ⟨S64x2048x14x14, .f32⟩
  | .hbm, ⟨34, _⟩ => ⟨S64x2048x14x14, .f32⟩
  | .hbm, ⟨35, _⟩ => ⟨S64x4096x14x14, .f32⟩
  | .hbm, ⟨36, _⟩ => ⟨S_, .f32⟩
  | .hbm, ⟨37, _⟩ => ⟨S64x4096, .f32⟩
  | .hbm, ⟨38, _⟩ => ⟨S_, .f32⟩
  | .hbm, ⟨39, _⟩ => ⟨S64x4096, .f32⟩
  | .hbm, ⟨40, _⟩ => ⟨S64x4096, .f32⟩
  | .hbm, ⟨41, _⟩ => ⟨S4096x8, .f32⟩
  | .hbm, ⟨42, _⟩ => ⟨S64x8, .f32⟩
  | .hbm, ⟨43, _⟩ => ⟨S1x8, .f32⟩
  | .hbm, ⟨44, _⟩ => ⟨S64x8, .f32⟩
  | .hbm, ⟨45, _⟩ => ⟨S64x8, .f32⟩
  | _, _ => ⟨S64x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Frame
public import Idealize.ShloMosaic.Lib.WritesUnit
public import Idealize.ShloMosaic.Lib.Pointwise.Sums
public import Idealize.ShloMosaic.Lib.WholeRead
public import Idealize.ShloMosaic.Lib.ValueIdxCore

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's branch: taken at the last of the seven steps of a half batch. -/
abbrev last (i : grid0.Coords) : Prop := k0_cond1 i = 1#1

/-- The scratch after a step: the step's own slab replaced by what the step computed, every other slab kept. -/
def put (i : grid0.Coords) (S : Vec F S7x896x48 .f32) (P : Vec F S1x896x48 .f32) : Vec F S7x896x48 .f32 :=
  fun j => if (j 0).val = (i 1).val then P (ValueIdx.ix3 0 (j 1) (j 2)) else S j

/-- Where a step's slab begins. -/
theorem off1_eq (i : grid0.Coords) : k0_off1 i = ![(i 1).val, 0, 0] := by
  have h : (i 1).val < 2 ^ 32 := lt_of_lt_of_le (i 1).isLt (by decide)
  simp only [k0_off1, Scalar.indexCast, BitVec.toNat_ofNat, BitVec.ofNat_toNat, BitVec.setWidth_eq, Nat.mod_eq_of_lt h]
  try rfl

/-- The scratch buffer after the step's store reads as `put`. -/
theorem read_put (i : grid0.Coords) (M : Memref sig .tc .vmem S7x896x48 .f32) (f : M.view.ty.Contents (Elt F)) (P : Vec F S1x896x48 .f32)
    (h : ∀ a, k0_off1 i a + S1x896x48.size a ≤ S7x896x48.size a) :
    M.view.read (Elt F) (M.view.writes (Elt F) f [⟨Rect.unit (k0_off1 i) S1x896x48.size h, P⟩]) = put i (M.view.read (Elt F) f) P := by
  funext y
  idx_vars y
  by_cases hy : y0.val = (i 1).val
  · refine (View.read_writes_cons_unit_of_mem M.view f h P [] (ValueIdx.ix3 y0 y1 y2) (ValueIdx.ix3 (0 : Fin 1) y1 y2) (off1_eq i) ?_).trans ?_
    · intro a
      match a with
      | ⟨0, _⟩ => simpa using hy
      | ⟨1, _⟩ => simp
      | ⟨2, _⟩ => simp
    · exact (if_pos hy).symm
  · refine (View.read_writes_cons_unit_of_not_mem M.view f h P [] (ValueIdx.ix3 y0 y1 y2) (off1_eq i) 0 ?_).trans ?_
    · show y0.val < (i 1).val ∨ (i 1).val + 1 ≤ y0.val
      omega
    · exact (if_neg hy).symm

theorem zero3 : (![0, 0, 0] : Fin 3 → ℕ) = fun _ => 0 := by funext a; fin_cases a <;> rfl
theorem zero2 : (![0, 0] : Fin 2 → ℕ) = fun _ => 0 := by funext a; fin_cases a <;> rfl

/-- A load of the whole of a whole buffer held at `x` reads `x`. -/
theorem readAt_whole {s : Shape} {e : EltTy} (m : Memref sig .tc .vmem s e) (h : m.IsWhole) (x : Vec F s e) (off : Fin s.rank → ℕ) (hoff : off = fun _ => 0)
    (hb : ∀ a, off a + s.size a ≤ s.size a) :
    m.view.readAt (Elt F) (Rect.unit off s.size hb).toLoadRect (h.unread x) = x := by
  subst hoff
  rw [View.readAt_eq_ld, h.read_unread]
  exact View.ld_unit_zero rfl _ x

/-- A load of the whole of a buffer reads what the buffer reads as. -/
theorem readAt_read {s : Shape} {e : EltTy} (m : Memref sig .tc .vmem s e) (f : m.view.ty.Contents (Elt F)) (off : Fin s.rank → ℕ) (hoff : off = fun _ => 0)
    (hb : ∀ a, off a + s.size a ≤ s.size a) :
    m.view.readAt (Elt F) (Rect.unit off s.size hb).toLoadRect f = m.view.read (Elt F) f := by
  rw [View.readAt_eq_ld]
  exact View.ld_unit_zero hoff _ _

/-- A store over the whole of a buffer leaves what was stored. -/
theorem read_store_whole {s : Shape} {e : EltTy} (m : Memref sig .tc .vmem s e) (f : m.view.ty.Contents (Elt F)) (w : Vec F s e) (off : Fin s.rank → ℕ) (hoff : off = fun _ => 0)
    (hb : ∀ a, off a + s.size a ≤ s.size a) :
    m.view.read (Elt F) (m.view.writes (Elt F) f [⟨Rect.unit off s.size hb, w⟩]) = w := by
  funext y
  refine View.read_writes_cons_unit_of_mem m.view f hb w [] y y hoff fun a => ?_
  simp

/-- What the last step writes to the first result, from the filled scratch and the map biases. -/
def outXv (S : Vec F S7x896x48 .f32) (x2 : Vec F S1x48 .f32) : Vec F S32x8 .f32 := k0_pay5 S x2

/-- What the last step writes to the second result, from the filled scratch, the map biases and the class biases. -/
def outRes (S : Vec F S7x896x48 .f32) (x2 : Vec F S1x48 .f32) (x3 : Vec F S1x8 .f32) : Vec F S32x8 .f32 :=
  k0_pay2 (k0_pay7 (k0_pay3 S))
    (k0_pay8 (k0_pay3 S) (k0_pay4 x2) (k0_pay5 S x2) (iota .tc S8x48 32 [1] iota_S8x48_d1_w32) (iota .tc S8x48 32 [0] iota_S8x48_d0_w32) 4#32 k0_pay6 0#32)
    (iota .tc S48x8 32 [0] iota_S48x8_d0_w32) k0_pay9 x3

set_option maxHeartbeats 1000000 in
/-- A step that is not the last: the step's slab of the scratch is what the step computed, everything else is as it was. -/
theorem step_mid (c : Dev nD) (i : grid0.Coords) (arg2 : Memref sig .tc .vmem S28x32x2048 .f32) (harg2 : arg2.IsWhole) (arg3 : Memref sig .tc .vmem S2048x48 .f32) (harg3 : arg3.IsWhole) (arg4 : Memref sig .tc .vmem S1x48 .f32) (harg4 : arg4.IsWhole) (arg5 : Memref sig .tc .vmem S1x8 .f32) (harg5 : arg5.IsWhole) (arg6 : Memref sig .tc .vmem S32x8 .f32) (harg6 : arg6.IsWhole) (arg7 : Memref sig .tc .vmem S32x8 .f32) (harg7 : arg7.IsWhole) (arg8 : Memref sig .tc .vmem S7x896x48 .f32) (harg8 : arg8.IsWhole) (hc : ¬last i)
    (x0 : Vec F S28x32x2048 .f32) (x1 : Vec F S2048x48 .f32) (x2 : Vec F S1x48 .f32) (x3 : Vec F S1x8 .f32) (d4 d5 : Vec F S32x8 .f32) (S : Vec F S7x896x48 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare (put i S (k0_pay1 x0 x1))) -∗ K ⟨⟩))
          ⊢ wp frame (wpE (defs₀ (F := F)) Variants.none c none) E (cc0__wscnet_kernel i arg2 harg2 arg3 harg3 arg4 harg4 arg5 harg5 arg6 harg6 arg7 harg7 arg8 harg8) K := by
  simp only [cc0__wscnet_kernel_eq_skeleton]; unfold cc0__wscnet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact hf4
    · iexact H4
  isplitl [H5]
  · iexists _; isplitr
    · ipureintro; exact hf5
    · iexact H5
  iexists _; isplitr
  swap
  · iexact HS
  ipureintro
  refine (read_put i arg8 fs _ _).trans ?_
  rw [hfs]
  exact congrArg (put i S) (congrArg₂ k0_pay1 (readAt_whole arg2 harg2 x0 _ zero3 _) (readAt_whole arg3 harg3 x1 _ zero2 _))

set_option maxHeartbeats 1000000 in
/-- The last step: its slab is stored too, and both results are written from the scratch as it then stands. -/
theorem step_last (c : Dev nD) (i : grid0.Coords) (arg2 : Memref sig .tc .vmem S28x32x2048 .f32) (harg2 : arg2.IsWhole) (arg3 : Memref sig .tc .vmem S2048x48 .f32) (harg3 : arg3.IsWhole) (arg4 : Memref sig .tc .vmem S1x48 .f32) (harg4 : arg4.IsWhole) (arg5 : Memref sig .tc .vmem S1x8 .f32) (harg5 : arg5.IsWhole) (arg6 : Memref sig .tc .vmem S32x8 .f32) (harg6 : arg6.IsWhole) (arg7 : Memref sig .tc .vmem S32x8 .f32) (harg7 : arg7.IsWhole) (arg8 : Memref sig .tc .vmem S7x896x48 .f32) (harg8 : arg8.IsWhole) (hc : last i)
    (x0 : Vec F S28x32x2048 .f32) (x1 : Vec F S2048x48 .f32) (x2 : Vec F S1x48 .f32) (x3 : Vec F S1x8 .f32) (d4 d5 : Vec F S32x8 .f32) (S : Vec F S7x896x48 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outXv (put i S (k0_pay1 x0 x1)) x2) ∗ owns (c : Thread nD τ) arg7 fullShare (outRes (put i S (k0_pay1 x0 x1)) x2 x3) ∗ owns (c : Thread nD τ) arg8 fullShare (put i S (k0_pay1 x0 x1))) -∗ K ⟨⟩))
          ⊢ wp frame (wpE (defs₀ (F := F)) Variants.none c none) E (cc0__wscnet_kernel i arg2 harg2 arg3 harg3 arg4 harg4 arg5 harg5 arg6 harg6 arg7 harg7 arg8 harg8) K := by
  simp only [cc0__wscnet_kernel_eq_skeleton]; unfold cc0__wscnet_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3
  sl_exec (disch := first | sl_exact hc)
  sl_step
  have hP := congrArg (put i S) (congrArg₂ k0_pay1 (readAt_whole arg2 harg2 x0 _ zero3 inb_S28x32x2048_S28x32x2048_0_0_0) (readAt_whole arg3 harg3 x1 _ zero2 inb_S2048x48_S2048x48_0_0))
  have hS : View.readAt (Elt F) arg8.view (Rect.unit ![0, 0, 0] S7x896x48.size inb_S7x896x48_S7x896x48_0_0_0).toLoadRect
        (arg8.view.writes (Elt F) fs (step_last.sl.HS_1 c i arg2 harg2 arg3 harg3 x0 x1)) = put i S (k0_pay1 x0 x1) := by
    unfold step_last.sl.HS_1
    refine (readAt_read arg8 _ _ zero3 _).trans ((read_put i arg8 fs _ _).trans ?_)
    rw [hfs]
    exact hP
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    swap
    · iexact H4
    ipureintro
    refine (read_store_whole arg6 f4 _ _ zero2 _).trans ?_
    unfold step_last.sl.r_2
    exact congrArg₂ k0_pay5 hS (readAt_whole arg4 harg4 x2 _ zero2 _)
  isplitl [H5]
  · iexists _; isplitr
    swap
    · iexact H5
    ipureintro
    refine (read_store_whole arg7 f5 _ _ zero2 _).trans ?_
    unfold step_last.sl.r_3 step_last.sl.r_4
    have h0 : step_last.sl.r c i arg2 harg2 arg3 harg3 arg8 x0 x1 fs = k0_pay3 (put i S (k0_pay1 x0 x1)) := congrArg k0_pay3 hS
    have h1 : step_last.sl.r_1 c arg4 harg4 x2 = k0_pay4 x2 := congrArg k0_pay4 (readAt_whole arg4 harg4 x2 _ zero2 _)
    have h2 : step_last.sl.r_2 c i arg2 harg2 arg3 harg3 arg4 harg4 arg8 x0 x1 x2 fs = k0_pay5 (put i S (k0_pay1 x0 x1)) x2 :=
      congrArg₂ k0_pay5 hS (readAt_whole arg4 harg4 x2 _ zero2 _)
    rw [h0, h1, h2]
    exact congrArg (k0_pay2 _ _ _ k0_pay9) (readAt_whole arg5 harg5 x3 _ zero2 _)
  iexists _; isplitr
  swap
  · iexact HS
  ipureintro
  refine (read_put i arg8 fs _ _).trans ?_
  rw [hfs]
  exact hP

end Cert.KernelIdeal.Pool

end
-- ==== Proof.Frame.lean ====
module

public import proofs.«01_k».proof.Proof.Body
public import proofs.«01_k».proof.Proof.Gen.KernelIdeal.Launch
public import proofs.«01_k».proof.Proof.Gen.KernelIdeal.Points
public import Idealize.ShloMosaic.Lib.Pipeline.Value
public import Idealize.ShloMosaic.Lib.Claim

@[expose] public section

set_option maxRecDepth 16384

noncomputable section

/-! The run of the idealized kernel. The scratch carries the slabs of the half batch computed so far; at the seventh step it is whole, and the two results' blocks are written from it. -/

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch holds -/

/-- The grid point numbered `n`. -/
def pt (n : ℕ) : Fin cfg0.N := ⟨n % 14, lt_of_lt_of_eq (Nat.mod_lt _ (by decide)) N_0.symm⟩

theorem pt_val (t : Fin cfg0.N) : pt t.val = t :=
  Fin.ext (Nat.mod_eq_of_lt (lt_of_lt_of_eq t.isLt N_0))

/-- The slab the step numbered `n` computes. -/
def slab (c : Dev nD) (n : ℕ) : Vec F S1x896x48 .f32 := k0_pay1 (iblk m c 0 (pt n)) (iblk m c 1 (pt n))

/-- The whole scratch of half batch `h`: its seven steps' slabs. -/
def gather (c : Dev nD) (h : ℕ) : Vec F S7x896x48 .f32 := fun j => slab m c (7 * h + (j 0).val) (ValueIdx.ix3 0 (j 1) (j 2))

/-- The scratch holds what the steps of the half batch before step `n` computed. -/
def Holds (c : Dev nD) (n : ℕ) (d : Vec F S7x896x48 .f32) : Prop :=
  ∀ j : S7x896x48.Idx, (j 0).val < n % 7 → d j = gather m c (n / 7) j

/-- The step's branch is taken at every seventh point. -/
theorem last_iff (t : Fin cfg0.N) : last (grid0.coords t) ↔ t.val % 7 = 6 := by
  have ht : t.val < 14 := Nat.lt_of_lt_of_eq t.isLt N_0
  have e0 : (grid0.coords t 0).val = t.val / 7 % 2 := Pipeline.Grid.coords_val t 0 (by decide) rfl
  have e1 : (grid0.coords t 1).val = t.val / 1 % 7 := Pipeline.Grid.coords_val t 1 (by decide) rfl
  simp only [last, k0_cond1, e0, e1]
  word_cmp

theorem step_coord (t : Fin cfg0.N) : (grid0.coords t 1).val = t.val % 7 := by
  have e1 : (grid0.coords t 1).val = t.val / 1 % 7 := Pipeline.Grid.coords_val t 1 (by decide) rfl
  rw [e1, Nat.div_one]

/-- After the step's store the slabs up to and including the step's are there. -/
theorem put_apply (c : Dev nD) (t : Fin cfg0.N) (d : Vec F S7x896x48 .f32) (hd : Holds m c t.val d) (j : S7x896x48.Idx) (hj : (j 0).val ≤ t.val % 7) :
    put (grid0.coords t) d (k0_pay1 (iblk m c 0 t) (iblk m c 1 t)) j = gather m c (t.val / 7) j := by
  unfold put
  rw [step_coord]
  by_cases h : (j 0).val = t.val % 7
  · rw [if_pos h]
    unfold gather slab
    rw [show 7 * (t.val / 7) + (j 0).val = t.val by omega, pt_val]
  · rw [if_neg h]
    exact hd j (by omega)

theorem put_holds (c : Dev nD) (t : Fin cfg0.N) (h : t.val % 7 ≠ 6) (d : Vec F S7x896x48 .f32) (hd : Holds m c t.val d) :
    Holds m c (t.val + 1) (put (grid0.coords t) d (k0_pay1 (iblk m c 0 t) (iblk m c 1 t))) := fun j hj => by
  rw [show (t.val + 1) / 7 = t.val / 7 by omega]
  exact put_apply m c t d hd j (by omega)

theorem put_gather (c : Dev nD) (t : Fin cfg0.N) (h : t.val % 7 = 6) (d : Vec F S7x896x48 .f32) (hd : Holds m c t.val d) :
    put (grid0.coords t) d (k0_pay1 (iblk m c 0 t) (iblk m c 1 t)) = gather m c (t.val / 7) := funext fun j => by
  have : (j 0).val < 7 := (j 0).isLt
  exact put_apply m c t d hd j (by omega)

theorem holds_start (c : Dev nD) (n : ℕ) (h : n % 7 = 0) (d : Vec F S7x896x48 .f32) : Holds m c n d := fun j hj => by omega

/-! ## The pipeline's proof data -/

/-- The scratch buffer. -/
abbrev scr : Memref sig .tc .vmem S7x896x48 .f32 := Memref.whole cc0_scratch0

/-- What the body carries from step to step: the scratch with the slabs so far, and the generator register. -/
def carry (c : Dev nD) (n : ℕ) : sProp 𝕄 :=
  iprop((∃ d, ⌜Holds m c n d⌝ ∗ owns (c : Thread nD τ) scr fullShare d) ∗ (∃ r, prngReg c r))

theorem phiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The proof data: the inputs' buffers keep their blocks, the results' buffers hold what the last step of the half batch writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => outXv (gather m c (t.val / 7)) (iblk m c 2 t)
    | ⟨5, h⟩ => outRes (gather m c (t.val / 7)) (iblk m c 2 t) (iblk m c 3 t)
  Φ n := carry m c n.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outXv (gather m c (t.val / 7)) (iblk m c 2 t) := by dsimp only [dats]
theorem after_5 (c : Dev nD) (t : Fin cfg0.N) : (dats m 0 c).after 5 t = outRes (gather m c (t.val / 7)) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

/-- Window `w`'s staging buffer at a point. -/
abbrev stage (w : Fin cfg0.W) (t : Fin cfg0.N) := (cfg0.win w).stage (cfg0.slots t w)

/-- What the body is called with, window by window. -/
def Given (c : Dev nD) (t : Fin cfg0.N) : sProp 𝕄 :=
  iprop((dats m 0 c).Φ t.castSucc ∗ (dats m 0 c).owesAt () t.castSucc
    ∗ (∃ d, owns (c : Thread nD τ) (stage 0 t) fullShare ((dats m 0 c).before 0 t d))
    ∗ (∃ d, owns (c : Thread nD τ) (stage 1 t) fullShare ((dats m 0 c).before 1 t d))
    ∗ (∃ d, owns (c : Thread nD τ) (stage 2 t) fullShare ((dats m 0 c).before 2 t d))
    ∗ (∃ d, owns (c : Thread nD τ) (stage 3 t) fullShare ((dats m 0 c).before 3 t d))
    ∗ (∃ d, owns (c : Thread nD τ) (stage 4 t) fullShare ((dats m 0 c).before 4 t d))
    ∗ (∃ d, owns (c : Thread nD τ) (stage 5 t) fullShare ((dats m 0 c).before 5 t d)))

/-- What it returns. -/
def Left (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_live (c : Dev nD) (w : Fin cfg0.W) (t : Fin cfg0.N) (h : cfg0.idle w (grid0.coords t) = false) :
    (dats m 0 c).leavesExact w t = owns (c : Thread nD τ) (stage w t) fullShare ((dats m 0 c).after w t) := by
  unfold Dat.leavesExact; rw [h]

theorem idle_mid {t : Fin cfg0.N} (h : ¬last (grid0.coords t)) : cfg0.idle 4 (grid0.coords t) = true ∧ cfg0.idle 5 (grid0.coords t) = true := by
  have : (k0_cond1 (grid0.coords t) == 1#1) = false := by simpa using h
  exact ⟨congrArg Bool.not this, congrArg Bool.not this⟩

theorem idle_last {t : Fin cfg0.N} (h : last (grid0.coords t)) : cfg0.idle 4 (grid0.coords t) = false ∧ cfg0.idle 5 (grid0.coords t) = false := by
  have : (k0_cond1 (grid0.coords t) == 1#1) = true := by simpa using h
  exact ⟨congrArg Bool.not this, congrArg Bool.not this⟩

set_option maxHeartbeats 1600000 in
theorem body_spec (c : Dev nD) (t : Fin cfg0.N) :
    Given m c t ⊢ wp frame (wpE (defs₀ (F := F)) Variants.none c none) Set.univ (bodyAt0 t) (fun _ => Left m c t) := by
  unfold Given Left bodyAt0
  simp only [before_0, before_1, before_2, before_3]
  rw [show (dats m 0 c).Φ t.castSucc = carry m c t.val from rfl, show (dats m 0 c).Φ t.succ = carry m c (t.val + 1) from rfl,
    show (dats m 0 c).owesAt () t.succ = (dats m 0 c).owesAt () t.castSucc from rfl]
  rw [leaves_live m c 0 t rfl, leaves_live m c 1 t rfl, leaves_live m c 2 t rfl, leaves_live m c 3 t rfl, after_0, after_1, after_2, after_3]
  unfold carry
  have hN : t.val < 14 := lt_of_lt_of_eq t.isLt (show cfg0.N = 14 from N_0)
  by_cases h0 : t.val % 7 = 6
  · have hl := (last_iff t).mpr h0
    rw [leaves_live m c 4 t (idle_last hl).1, leaves_live m c 5 t (idle_last hl).2, after_4, after_5]
    iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    have hp := put_gather m c t h0 d hd
    iapply (step_last c (grid0.coords t) _ _ _ _ _ _ _ _ _ _ _ _ _ _ hl (iblk m c 0 t) (iblk m c 1 t) (iblk m c 2 t) (iblk m c 3 t) _ _ d Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    rw [hp]
    iintro ⟨H0, H1, H2, H3, H4, H5, HS⟩
    isplitl [HS Hg]
    · isplitl [HS]
      · iexists _; isplitr
        swap
        · iexact HS
        ipureintro
        exact holds_start m c _ (by omega) _
      iexact Hg
    isplitl [Ho]; · iexact Ho
    isplitl [H0]; · iexact H0
    isplitl [H1]; · iexact H1
    isplitl [H2]; · iexact H2
    isplitl [H3]; · iexact H3
    isplitl [H4]; · iexact H4
    iexact H5
  · have hl : ¬last (grid0.coords t) := fun h => h0 ((last_iff t).mp h)
    have f4 : (cfg0.win 4).flush t = false := Bool.eq_false_iff.mpr fun h => h0 ((flush0_4 t).mp h)
    have f5 : (cfg0.win 5).flush t = false := Bool.eq_false_iff.mpr fun h => h0 ((flush0_5 t).mp h)
    rw [Dat.leavesExact_idle _ 4 t (idle_mid hl).1 f4, Dat.leavesExact_idle _ 5 t (idle_mid hl).2 f5]
    iintro ⟨⟨⟨%d, %hd, HS⟩, Hg⟩, Ho, ⟨%d0, H0⟩, ⟨%d1, H1⟩, ⟨%d2, H2⟩, ⟨%d3, H3⟩, ⟨%d4, H4⟩, ⟨%d5, H5⟩⟩
    have hp := put_holds m c t h0 d hd
    iapply (step_mid c (grid0.coords t) _ _ _ _ _ _ _ _ _ _ _ _ _ _ hl (iblk m c 0 t) (iblk m c 1 t) (iblk m c 2 t) (iblk m c 3 t) _ _ d Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists _; isplitr
        swap
        · iexact HS
        ipureintro
        exact hp
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact body_spec m c t

theorem start (c : Dev nD) : (Pipeline.ΦA spec0 c : sProp 𝕄) ⊢ carry m c 0 := by
  rw [phiA_eq]; unfold carry
  iintro ⟨⟨%d, HS⟩, Hg⟩
  isplitl [HS]
  · iexists d; isplitr
    · ipureintro; exact holds_start m c 0 rfl d
    · iexact HS
  iexact Hg

theorem finish (c : Dev nD) (n : ℕ) : carry m c n ⊢ (Pipeline.ΦA spec0 c : sProp 𝕄) := by
  rw [phiA_eq]; unfold carry
  iintro ⟨⟨%d, %hd, HS⟩, Hg⟩
  isplitl [HS]
  · iexists d; iexact HS
  iexact Hg

/-! ## The run -/

set_option backward.isDefEq.respectTransparency.types false in
/-- Every execution ends with the arrays at what the proof data say and the semaphores at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => start m c) (hout := fun c => finish m c _)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Pool

end
-- ==== Proof.KernelFrame.lean ====
module

public import proofs.«01_k».proof.Defs
public import proofs.«01_k».proof.Proof.Gen.Kernel
public import proofs.«01_k».proof.Proof.Frame

@[expose] public section

set_option maxRecDepth 16384

noncomputable section

/-! The kernel's frame. The run in `Frame` is stated for any floats and any reading of the named constant. Read the name
as the literal that stands in the kernel, and the idealized program is the kernel itself. -/

namespace Cert.Kernel.Pool

open Idealize.ShloMosaic Idealize.SL.Sem

/-- The named constant read as the literal it replaced. -/
@[instance_reducible] def literal : Named Bits := ⟨fun _ _ φ bits => FloatOps.ofBits φ bits⟩

attribute [local instance] literal

/-- With that reading the two bodies are one. -/
theorem body_eq (i : Cert.Kernel.grid0.Coords) :
    Cert.Kernel.cc0__wscnet_kernel (F := Bits) i = Cert.KernelIdeal.cc0__wscnet_kernel (F := Bits) i := rfl

/-- So the kernels' body tables are one. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So the programs' body tables are one. -/
theorem defs_eq : Cert.Kernel.defs (F := Bits) = Cert.KernelIdeal.defs (F := Bits) := by
  unfold Cert.Kernel.defs Cert.KernelIdeal.defs
  rw [defs₀_eq]
  rfl

/-- And the two programs run the same operations. -/
theorem main_eq : Cert.Kernel.main (F := Bits) = Cert.KernelIdeal.main (F := Bits) := rfl

/-- The kernel ends with its arguments unchanged and its semaphores at zero. -/
theorem quiescent : Cert.quiescent_Kernel := by
  intro m g _
  have h := Cert.KernelIdeal.Pool.frame (F := Bits) m g
  rw [← defs_eq, ← main_eq] at h
  exact h

end Cert.Kernel.Pool

end
-- ==== Proof.Arrays.lean ====
module

public import proofs.«01_k».proof.Proof.Frame
public import Idealize.ShloMosaic.Lib.Pipeline.ValueKit

@[expose] public section

set_option maxRecDepth 16384

noncomputable section

/-! What the two result arrays hold after the run, and the entries of the windows' blocks in the arrays they are cut from. -/

namespace Cert.KernelIdeal.Pool

open Cert.KernelIdeal Cert.KernelIdeal.Gen
open Idealize.ShloMosaic Idealize.ShloMosaic.TcCoe
open Idealize.SL.Sem
open Idealize.ShloMosaic.Pipeline (Dat)

variable {F : FTy → Type} [FloatOps F] [Named F]

variable (m : (ℓ : Loc nD τ sig) → Buf (Elt F) ℓ) (ρ : Dev nD → PrngReg)

/-! ## The index maps -/

theorem index_0 : ∀ t : Fin grid0.N, win0_0.index t = ![t.val % 7, t.val / 7, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![t.val / 7, 0] := by decide +kernel
theorem index_5 : ∀ t : Fin grid0.N, win0_5.index t = ![t.val / 7, 0] := by decide +kernel

/-! ## The blocks -/

/-- The features' block of a step: 28 positions by 32 samples by all channels. -/
theorem iblk_0 (c : Dev nD) (t : Fin cfg0.N) (j : S28x32x2048.Idx) (i : S196x64x2048.Idx)
    (h0 : (i 0).val = t.val % 7 * 28 + (j 0).val) (h1 : (i 1).val = t.val / 7 * 32 + (j 1).val) (h2 : (i 2).val = (j 2).val) :
    iblk m c 0 t j = V m c main_v1 i := by
  show V m c main_v1 ((win0_0.rect t).emb j) = _
  refine congrArg _ (funext fun a => Fin.ext ?_)
  refine (Pipeline.Window.rect_emb_val win0_0 t j a).trans ?_
  rw [index_0 t]
  match a with
  | ⟨0, _⟩ => exact h0.symm
  | ⟨1, _⟩ => exact h1.symm
  | ⟨2, _⟩ => exact (Nat.zero_add _).trans h2.symm

/-- The weights' block is the whole array. -/
theorem iblk_1 (c : Dev nD) (t : Fin cfg0.N) : iblk m c 1 t = V m c main_v5 := funext fun j => by
  show V m c main_v5 ((win0_1.rect t).emb j) = _
  refine congrArg _ (funext fun a => Fin.ext ?_)
  refine (Pipeline.Window.rect_emb_val win0_1 t j a).trans ?_
  rw [index_1 t]
  match a with
  | ⟨0, _⟩ => exact Nat.zero_add _
  | ⟨1, _⟩ => exact Nat.zero_add _

theorem iblk_2 (c : Dev nD) (t : Fin cfg0.N) : iblk m c 2 t = V m c main_v8 := funext fun j => by
  show V m c main_v8 ((win0_2.rect t).emb j) = _
  refine congrArg _ (funext fun a => Fin.ext ?_)
  refine (Pipeline.Window.rect_emb_val win0_2 t j a).trans ?_
  rw [index_2 t]
  match a with
  | ⟨0, _⟩ => exact Nat.zero_add _
  | ⟨1, _⟩ => exact Nat.zero_add _

theorem iblk_3 (c : Dev nD) (t : Fin cfg0.N) : iblk m c 3 t = V m c main_v9 := funext fun j => by
  show V m c main_v9 ((win0_3.rect t).emb j) = _
  refine congrArg _ (funext fun a => Fin.ext ?_)
  refine (Pipeline.Window.rect_emb_val win0_3 t j a).trans ?_
  rw [index_3 t]
  match a with
  | ⟨0, _⟩ => exact Nat.zero_add _
  | ⟨1, _⟩ => exact Nat.zero_add _

/-! ## The result arrays -/

/-- The row of its half batch a sample is. -/
def row (b : Fin 64) : Fin 32 := ⟨b.val % 32, Nat.mod_lt _ (by decide)⟩

/-- What the first result holds: its half batch's block. -/
def arrXv (c : Dev nD) : S64x8.Idx → F .f32 := fun i =>
  outXv (gather m c ((i 0).val / 32)) (V m c main_v8) (ValueIdx.ix2 (row (i 0)) (i 1))

/-- What the second result holds. -/
def arrRes (c : Dev nD) : S64x8.Idx → F .f32 := fun i =>
  outRes (gather m c ((i 0).val / 32)) (V m c main_v8) (V m c main_v9) (ValueIdx.ix2 (row (i 0)) (i 1))

theorem flushed_4 (c : Dev nD) (t : Fin cfg0.N) :
    (dats m 0 c).flushed 4 t = ((cfg0.win 4).blk t).view.read (Elt F) (arrXv m c) := by
  show (cfg0.win 4).cut (grid0.coords t) ((dats m 0 c).after 4 t) = _
  rw [after_4, iblk_2]
  funext j
  show outXv (gather m c (t.val / 7)) (V m c main_v8) j = arrXv m c ((win0_4.rect t).emb j)
  have e0 : ((win0_4.rect t).emb j 0).val = t.val / 7 * 32 + (j 0).val := by
    refine (Pipeline.Window.rect_emb_val win0_4 t j 0).trans ?_
    rw [index_4 t]; rfl
  have e1 : ((win0_4.rect t).emb j 1).val = (j 1).val := by
    refine (Pipeline.Window.rect_emb_val win0_4 t j 1).trans ?_
    rw [index_4 t]; exact Nat.zero_add _
  have hj : (j 0).val < 32 := (j 0).isLt
  unfold arrXv
  refine congr (congrArg (fun h => outXv (gather m c h) (V m c main_v8)) (by omega)) (funext fun a => Fin.ext ?_)
  match a with
  | ⟨0, _⟩ => exact (show (j 0).val = ((win0_4.rect t).emb j 0).val % 32 by omega)
  | ⟨1, _⟩ => exact e1.symm

theorem flushed_5 (c : Dev nD) (t : Fin cfg0.N) :
    (dats m 0 c).flushed 5 t = ((cfg0.win 5).blk t).view.read (Elt F) (arrRes m c) := by
  show (cfg0.win 5).cut (grid0.coords t) ((dats m 0 c).after 5 t) = _
  rw [after_5, iblk_2, iblk_3]
  funext j
  show outRes (gather m c (t.val / 7)) (V m c main_v8) (V m c main_v9) j = arrRes m c ((win0_5.rect t).emb j)
  have e0 : ((win0_5.rect t).emb j 0).val = t.val / 7 * 32 + (j 0).val := by
    refine (Pipeline.Window.rect_emb_val win0_5 t j 0).trans ?_
    rw [index_5 t]; rfl
  have e1 : ((win0_5.rect t).emb j 1).val = (j 1).val := by
    refine (Pipeline.Window.rect_emb_val win0_5 t j 1).trans ?_
    rw [index_5 t]; exact Nat.zero_add _
  have hj : (j 0).val < 32 := (j 0).isLt
  unfold arrRes
  refine congr (congrArg (fun h => outRes (gather m c h) (V m c main_v8) (V m c main_v9)) (by omega)) (funext fun a => Fin.ext ?_)
  match a with
  | ⟨0, _⟩ => exact (show (j 0).val = ((win0_5.rect t).emb j 0).val % 32 by omega)
  | ⟨1, _⟩ => exact e1.symm

/-- The last step of sample `b`'s half batch. -/
theorem last_step (b : ℕ) (hb : b < 64) : 7 * (b / 32) + 6 < cfg0.N := lt_of_lt_of_eq (by omega) N_0.symm

theorem cover_4 (i : S64x8.Idx) : ∃ t : Fin cfg0.N, (cfg0.win 4).flush t = true ∧ i ∈ ((cfg0.win 4).blk t).view.set := by
  have h0 : (i 0).val < 64 := (i 0).isLt
  have h1 : (i 1).val < 8 := (i 1).isLt
  refine ⟨⟨7 * ((i 0).val / 32) + 6, last_step _ h0⟩, (flush0_4 _).mpr (by simp only; omega), ?_⟩
  mem_blk [index_4]
  simp only
  omega

theorem cover_5 (i : S64x8.Idx) : ∃ t : Fin cfg0.N, (cfg0.win 5).flush t = true ∧ i ∈ ((cfg0.win 5).blk t).view.set := by
  have h0 : (i 0).val < 64 := (i 0).isLt
  have h1 : (i 1).val < 8 := (i 1).isLt
  refine ⟨⟨7 * ((i 0).val / 32) + 6, last_step _ h0⟩, (flush0_5 _).mpr (by simp only; omega), ?_⟩
  mem_blk [index_5]
  simp only
  omega

theorem final_4 (c : Dev nD) : (dats m 0 c).arrAt 4 cfg0.N = arrXv m c :=
  (dats m 0 c).arrAt_eq_of_cover 4 (arrXv m c) (fun t _ => flushed_4 m c t) cover_4

theorem final_5 (c : Dev nD) : (dats m 0 c).arrAt 5 cfg0.N = arrRes m c :=
  (dats m 0 c).arrAt_eq_of_cover 5 (arrRes m c) (fun t _ => flushed_5 m c t) cover_5

/-- The run, with both results named and the arguments unchanged. -/
theorem run : θ_run defs (onTc (τ := τ) (main (F := F))) ⟨m, fun _ => 0, ρ⟩ (fun r => ∀ c : Dev nD,
      r.2.mem ((c.tc : Thread nD τ).loc main_v10_0) = arrXv m c
      ∧ r.2.mem ((c.tc : Thread nD τ).loc main_v10_1) = arrRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (final_4 m c), ((h.1 c).1 5).trans (final_5 m c), h.2.1 c⟩)
    (θ_run_and ((θ_run defs _ _).mono (fun _ h => h.1) (run_main m ρ)) (frame m ρ))

end Cert.KernelIdeal.Pool

end
-- ==== Proof.Consts.lean ====
module

public import proofs.«01_k».proof.Proof.Gen.KernelIdeal
public import Idealize.ShloMosaic.PureOps.Ideal.Laws
public import Idealize.ShloMosaic.PureOps.IdealRules
public import Mathlib.Data.Real.Basic
public import Mathlib.Tactic.NormNum

@[expose] public section

/-! The printed float literals as extended reals. -/

namespace Cert.Consts

open Idealize.ShloMosaic

theorem lit_quarter : Ideal.ofBits .f32 0x3E800000#32 = ((1 / 4 : ℝ) : EReal) := by
  simp [Ideal.ofBits, Ideal.ieee, -EReal.coe_mul]; norm_num

theorem lit_32nd : Ideal.ofBits .f32 0x3D000000#32 = ((1 / 32 : ℝ) : EReal) := by
  simp [Ideal.ofBits, Ideal.ieee, -EReal.coe_mul]; norm_num

theorem lit_4 : Ideal.ofBits .f32 0x40800000#32 = ((4 : ℝ) : EReal) := by
  simp [Ideal.ofBits, Ideal.ieee, -EReal.coe_mul]; norm_num

theorem lit_8 : Ideal.ofBits .f32 0x41000000#32 = ((8 : ℝ) : EReal) := by
  simp [Ideal.ofBits, Ideal.ieee, -EReal.coe_mul]; norm_num

theorem lit_196 : Ideal.ofBits .f32 0x43440000#32 = ((196 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee]

theorem lit_inf : Ideal.ofBits .f32 0x7F800000#32 = (⊤ : EReal) := by
  simp [Ideal.ofBits, Ideal.ieee]

/-- The named constant is the exact reciprocal of the number of positions. -/
theorem inv_hw : Named.named (F := Ideal) Cert.KernelIdeal.κ "inv_hw" (φ := .f32) 0x3BA72F05#32 = ((1 / 196 : ℝ) : EReal) :=
  IdealRules.named_const.ideal_named_scalar _ _ _ _ rfl

theorem div_4 (x : EReal) : Ideal.div x ((4 : ℝ) : EReal) = x * ((1 / 4 : ℝ) : EReal) := Ideal.div_coe (by norm_num) x
theorem div_8 (x : EReal) : Ideal.div x ((8 : ℝ) : EReal) = x * ((1 / 8 : ℝ) : EReal) := Ideal.div_coe (by norm_num) x
theorem div_196 (x : EReal) : Ideal.div x ((196 : ℝ) : EReal) = x * ((1 / 196 : ℝ) : EReal) := Ideal.div_coe (by norm_num) x

end Cert.Consts
-- ==== Proof.Reference.lean ====
module

public import proofs.«01_k».proof.Proof.Gen.ReferenceIdeal.Run
public import proofs.«01_k».proof.Proof.Consts
public import Idealize.ShloMosaic.Lib.Pointwise
public import Idealize.ShloMosaic.Lib.Pointwise.IndexBridge

@[expose] public section

set_option maxRecDepth 16384

noncomputable section

/-! What the reference's two results are, entry by entry. -/

namespace Cert.ReferenceIdeal.Entry

open Cert.ReferenceIdeal Cert.ReferenceIdeal.Gen
open Idealize.ShloMosaic Idealize.ShloMosaic.TcCoe

variable (X : FVec Ideal S64x2048x14x14 .f32) (W : FVec Ideal S32x2048 .f32) (B : FVec Ideal S32 .f32)
  (U : FVec Ideal S8x4096 .f32) (G : FVec Ideal S8 .f32)

/-! ## The reference's arrays -/

/-- The convolution with its bias. -/
def conv : FVec Ideal S64x32x14x14 .f32 :=
  addf (transpose S64x32x14x14 [1, 0, 2, 3] (Host.dotGeneral dot_S32x2048_S64x2048x14x14_S32x64x14x14_1_1_0_023_n_n none W X) transposes_S32x64x14x14_S64x32x14x14_1_0_2_3)
    (broadcastInDim S64x32x14x14 ![0, 1, 2, 3] bcast_S1x32x1x1_S64x32x14x14_0_1_2_3 (broadcastInDim S1x32x1x1 ![1] bcast_S32_S1x32x1x1_1 B))

/-- The first result: the mean over each class's four maps of their maxima. -/
def xv : FVec Ideal S64x8 .f32 :=
  Host.divf (Host.reduceAdd (shapeCast S64x8x4 (Host.reduce FloatOps.maximumf (conv X W B) (constant S_ .f32 0xFF800000#32) reducesTo_S64x32x14x14_S64x32_d2_3 h_S_) shapeCasts_S64x32_S64x8x4)
    (constant S_ .f32 0x00000000#32) reducesTo_S64x8x4_S64x8_d2 h_S_) (broadcastInDim S64x8 ![] bcast_S_S64x8 (constant S_ .f32 0x40800000#32))

/-- The mean over each class's four maps. -/
def classMap : FVec Ideal S64x8x14x14 .f32 :=
  Host.divf (Host.reduceAdd (shapeCast S64x8x4x14x14 (conv X W B) shapeCasts_S64x32x14x14_S64x8x4x14x14) (constant S_ .f32 0x00000000#32) reducesTo_S64x8x4x14x14_S64x8x14x14_d2 h_S_)
    (broadcastInDim S64x8x14x14 ![] bcast_S_S64x8x14x14 (constant S_ .f32 0x40800000#32))

/-- The classes' maps weighted by the first result and averaged: one map. -/
def attn : FVec Ideal S64x1x14x14 .f32 :=
  Host.divf (Host.reduceAdd (shapeCast S64x1x8x14x14 (mulf (classMap X W B)
      (broadcastInDim S64x8x14x14 ![0, 1, 2, 3] bcast_S64x8x1x1_S64x8x14x14_0_1_2_3 (broadcastInDim S64x8x1x1 ![0, 1] bcast_S64x8_S64x8x1x1_0_1 (xv X W B))))
      shapeCasts_S64x8x14x14_S64x1x8x14x14) (constant S_ .f32 0x00000000#32) reducesTo_S64x1x8x14x14_S64x1x14x14_d2 h_S_)
    (broadcastInDim S64x1x14x14 ![] bcast_S_S64x1x14x14 (constant S_ .f32 0x41000000#32))

/-- The features above the features weighted by the map, averaged over the positions. -/
def gap : FVec Ideal S64x4096 .f32 :=
  Host.divf (Host.reduceAdd (concatenate S64x4096x14x14 1 [⟨S64x2048x14x14, X⟩, ⟨S64x2048x14x14, mulf (broadcastInDim S64x2048x14x14 ![0, 1, 2, 3] bcast_S64x1x14x14_S64x2048x14x14_0_1_2_3 (attn X W B)) X⟩]
      concatenates_S64x2048x14x14_S64x2048x14x14_S64x4096x14x14_d1) (constant S_ .f32 0x00000000#32) reducesTo_S64x4096x14x14_S64x4096_d2_3 h_S_)
    (broadcastInDim S64x4096 ![] bcast_S_S64x4096 (constant S_ .f32 0x43440000#32))

/-- The second result. -/
def res : FVec Ideal S64x8 .f32 :=
  addf (Host.dotGeneral dot_S64x4096_S4096x8_S64x8_1_0_0_1_n_n none (gap X W B) (transpose S4096x8 [1, 0] U transposes_S8x4096_S4096x8_1_0))
    (broadcastInDim S64x8 ![0, 1] bcast_S1x8_S64x8_0_1 (broadcastInDim S1x8 ![1] bcast_S8_S1x8_1 G))

/-! ## Their entries -/

theorem conv_apply (b : Fin 64) (o : Fin 32) (h w : Fin 14) :
    conv X W B (ix4 b o h w) = (∑ c : Fin 2048, W (ix2 o c) * X (ix4 b c h w)) + B (ix1 o) := by
  pointwise [conv]

/-- Map `j` of class `k`. -/
def map4 (k : Fin 8) (j : Fin 4) : Fin 32 := ⟨k.val * 4 + j.val, by omega⟩

theorem xv_apply (b : Fin 64) (k : Fin 8) :
    xv X W B (ix2 b k)
      = (∑ j : Fin 4, Finset.fold max ⊥ (fun p : Fin 14 × Fin 14 => conv X W B (ix4 b (map4 k j) p.1 p.2)) Finset.univ) * ((1 / 4 : ℝ) : EReal) := by
  rw [← Consts.div_4, ← Consts.lit_4, ← Consts.lit_neg_inf]
  pointwise [xv]
  rfl

theorem classMap_apply (b : Fin 64) (k : Fin 8) (h w : Fin 14) :
    classMap X W B (ix4 b k h w) = (∑ j : Fin 4, conv X W B (ix4 b (map4 k j) h w)) * ((1 / 4 : ℝ) : EReal) := by
  rw [← Consts.div_4, ← Consts.lit_4]
  pointwise [classMap]
  rfl

theorem attn_apply (b : Fin 64) (h w : Fin 14) :
    attn X W B (ix4 b 0 h w) = (∑ k : Fin 8, classMap X W B (ix4 b k h w) * xv X W B (ix2 b k)) * ((1 / 8 : ℝ) : EReal) := by
  rw [← Consts.div_8, ← Consts.lit_8]
  pointwise [attn]

theorem gap_low (b : Fin 64) (c : Fin 4096) (hc : c.val < 2048) :
    gap X W B (ix2 b c) = (∑ h : Fin 14, ∑ w : Fin 14, X (ix4 b ⟨c.val, hc⟩ h w)) * ((1 / 196 : ℝ) : EReal) := by
  rw [← Consts.div_196, ← Consts.lit_196]
  pointwise [gap]
  simp only [dif_pos hc]

theorem gap_high (b : Fin 64) (c : Fin 4096) (hc : ¬c.val < 2048) :
    gap X W B (ix2 b c)
      = (∑ h : Fin 14, ∑ w : Fin 14, attn X W B (ix4 b 0 h w) * X (ix4 b ⟨c.val - 2048, by omega⟩ h w)) * ((1 / 196 : ℝ) : EReal) := by
  rw [← Consts.div_196, ← Consts.lit_196]
  pointwise [gap]
  simp only [dif_neg hc]

theorem res_gap (b : Fin 64) (k : Fin 8) :
    res X W B U G (ix2 b k) = (∑ c : Fin 4096, gap X W B (ix2 b c) * U (ix2 k c)) + G (ix1 k) := by
  pointwise [res]

/-- The second result, the features' half and the weighted features' half apart. -/
theorem res_apply (b : Fin 64) (k : Fin 8) :
    res X W B U G (ix2 b k)
      = ((∑ c : Fin 2048, (∑ h : Fin 14, ∑ w : Fin 14, X (ix4 b c h w)) * ((1 / 196 : ℝ) : EReal) * U (ix2 k ⟨c.val, by omega⟩))
        + ∑ c : Fin 2048, (∑ h : Fin 14, ∑ w : Fin 14, attn X W B (ix4 b 0 h w) * X (ix4 b c h w)) * ((1 / 196 : ℝ) : EReal) * U (ix2 k ⟨2048 + c.val, by omega⟩))
        + G (ix1 k) := by
  rw [res_gap, show (∑ c : Fin 4096, gap X W B (ix2 b c) * U (ix2 k c)) = _ from
    Fin.sum_univ_add (a := 2048) (b := 2048) fun c => gap X W B (ix2 b c) * U (ix2 k c)]
  congr 2
  · exact Finset.sum_congr rfl fun c _ => by rw [gap_low X W B b (Fin.castAdd 2048 c) c.isLt]; rfl
  · refine Finset.sum_congr rfl fun c _ => ?_
    rw [gap_high X W B b (Fin.natAdd 2048 c) (by simp)]
    have e : (⟨(Fin.natAdd 2048 c).val - 2048, by simp⟩ : Fin 2048) = c := Fin.ext (by simp)
    rw [e]; rfl

end Cert.ReferenceIdeal.Entry

end
-- ==== Proof.Finite.lean ====
module

public import proofs.«01_k».proof.Proof.Consts
public import proofs.«01_k».proof.Proof.Gen.Pre_finite
public import Idealize.ShloMosaic.Lib.ReduceAll
public import Idealize.ShloMosaic.Lib.Pointwise

@[expose] public section

set_option maxRecDepth 16384

/-! The precondition says that the entries of the first four arguments are real numbers. -/

namespace Cert.Finite

open Cert.Pre_finite Cert.Pre_finite.Gen
open Idealize.ShloMosaic

/-- A value below infinity in absolute value is a real number. -/
theorem real_of_abs (a : EReal) (h : Ideal.cmp .olt (max a (-a)) (Ideal.ofBits .f32 0x7F800000#32) = 1#1) : ∃ r : ℝ, a = r := by
  rw [Consts.lit_inf] at h
  have hlt : max a (-a) < ⊤ := by
    by_contra hn
    simp [Ideal.cmp, hn] at h
  induction a with
  | bot => simp at hlt
  | top => simp at hlt
  | coe r => exact ⟨r, rfl⟩

instance : Subsingleton S_.Idx := ⟨fun a b => funext fun i => i.elim0⟩

variable (X : FVec Ideal S64x2048x14x14 .f32) (W : FVec Ideal S32x2048 .f32) (B : FVec Ideal S32 .f32)
  (U : FVec Ideal S8x4096 .f32) (G : FVec Ideal S8 .f32)

theorem entries (h : fn (F := Ideal) X W B U G = fun _ => 1#1) :
    (∀ i, ∃ r : ℝ, X i = r) ∧ (∀ i, ∃ r : ℝ, W i = r) ∧ (∀ i, ∃ r : ℝ, B i = r) ∧ ∀ i, ∃ r : ℝ, U i = r := by
  have h0 := congrFun h (fun a => a.elim0)
  dsimp only [fn, fn_part1] at h0
  obtain ⟨h1, hU⟩ := IntOp.andi_eq_one.1 h0
  obtain ⟨h2, hB⟩ := IntOp.andi_eq_one.1 h1
  obtain ⟨hX, hW⟩ := IntOp.andi_eq_one.1 h2
  exact ⟨fun i => real_of_abs _ (Host.reduce_andi_all _ _ _ _ _ hX i), fun i => real_of_abs _ (Host.reduce_andi_all _ _ _ _ _ hW i),
    fun i => real_of_abs _ (Host.reduce_andi_all _ _ _ _ _ hB i), fun i => real_of_abs _ (Host.reduce_andi_all _ _ _ _ _ hU i)⟩

end Cert.Finite
-- ==== Proof.Payloads.lean ====
module

public import proofs.«01_k».proof.Proof.Consts
public import proofs.«01_k».proof.Proof.Gen.KernelIdeal.Skeleton
public import Idealize.ShloMosaic.Lib.Pointwise
public import Idealize.ShloMosaic.Lib.Pointwise.IndexBridge

@[expose] public section

set_option maxRecDepth 16384

noncomputable section

/-! What each of the kernel's vector expressions is at an entry, over the extended reals. -/

namespace Cert.KernelIdeal.Pool

open Cert.KernelIdeal Cert.KernelIdeal.Gen
open Idealize.ShloMosaic Idealize.ShloMosaic.TcCoe

/-! ## The selectors' words -/

/-- The word by which the kernel says that map `o` is one of class `k`'s four. -/
def classWord (o : Fin 48) (k : Fin 8) : BitVec 32 :=
  BitVec.setWidth 32
    (IntOp.cmpi CmpIPredicate.eq
      (Scalar.select
        (IntOp.andi
          (IntOp.cmpi CmpIPredicate.ne
            (IntOp.subi (BitVec.setWidth 32 (IntOp.cmpi CmpIPredicate.sgt (BitVec.ofNat 32 o.val) 0#32))
              (BitVec.setWidth 32 (IntOp.cmpi CmpIPredicate.slt (BitVec.ofNat 32 o.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 o.val) 4#32) 0#32))
        (IntOp.subi (IntOp.divsi ArithUnit.vector (BitVec.ofNat 32 o.val) 4#32) 1#32)
        (IntOp.divsi ArithUnit.vector (BitVec.ofNat 32 o.val) 4#32))
      (BitVec.ofNat 32 k.val))

/-- The word by which the kernel says that column `o` is column `k` counted from `a`. -/
def columnWord (a : BitVec 32) (o : Fin 48) (k : Fin 8) : BitVec 32 :=
  BitVec.setWidth 32 (IntOp.cmpi CmpIPredicate.eq (BitVec.ofNat 32 o.val) (IntOp.addi a (BitVec.ofNat 32 k.val)))

theorem classWord_eq : ∀ (o : Fin 48) (k : Fin 8), classWord o k = if o.val / 4 = k.val then 1#32 else 0#32 := by
  decide +kernel

theorem columnWord_32_eq : ∀ (o : Fin 48) (k : Fin 8), columnWord 32#32 o k = if o.val = 32 + k.val then 1#32 else 0#32 := by
  decide +kernel

theorem columnWord_40_eq : ∀ (o : Fin 48) (k : Fin 8), columnWord 40#32 o k = if o.val = 40 + k.val then 1#32 else 0#32 := by
  decide +kernel

/-- A word that is one or zero, as a float. -/
theorem sitofp_ite (p : Prop) [Decidable p] :
    FloatOps.sitofp (F := Ideal) .f32 (if p then 1#32 else 0#32) = if p then (1 : EReal) else 0 := by
  show (((if p then 1#32 else 0#32 : BitVec 32).toInt : ℝ) : EReal) = _
  split <;> norm_num

/-! ## The sums the selectors make -/

/-- Map `j` of class `k`. -/
def map4 (k : Fin 8) (j : Fin 4) : Fin 48 := ⟨k.val * 4 + j.val, by omega⟩

theorem filter_class : ∀ k : Fin 8, (Finset.univ.filter fun o : Fin 48 => o.val / 4 = k.val)
    = Finset.univ.map ⟨map4 k, fun a b h => Fin.ext (by have := congrArg Fin.val h; simp only [map4] at this; omega)⟩ := by
  decide +kernel

/-- A sum over all columns weighted by a class's selector is the sum over the class's four maps. -/
theorem sum_class (f : Fin 48 → EReal) (k : Fin 8) :
    ∑ o : Fin 48, f o * (if o.val / 4 = k.val then 1 else 0) = ∑ j : Fin 4, f (map4 k j) := by
  simp only [mul_ite, mul_one, mul_zero]
  rw [← Finset.sum_filter, filter_class, Finset.sum_map]
  rfl

/-- A sum over the classes weighted by a map's selector is the class's value, or zero past the maps. -/
theorem sum_of_class (v : Fin 8 → EReal) (o : Fin 48) :
    ∑ k : Fin 8, v k * (if o.val / 4 = k.val then 1 else 0) = if h : o.val < 32 then v ⟨o.val / 4, by omega⟩ else 0 := by
  simp only [mul_ite, mul_one, mul_zero]
  split
  case isTrue h =>
    rw [Finset.sum_eq_single (⟨o.val / 4, by omega⟩ : Fin 8)]
    · rw [if_pos rfl]
    · intro k _ hk; exact if_neg fun e => hk (Fin.ext e.symm)
    · intro h; exact absurd (Finset.mem_univ _) h
  case isFalse h =>
    exact Finset.sum_eq_zero fun k _ => if_neg (by omega)

/-- A sum over all columns weighted by a column's selector is that column's entry. -/
theorem sum_column (f : Fin 48 → EReal) (n : ℕ) (c : Fin 48) (hc : c.val = n) :
    ∑ o : Fin 48, f o * (if o.val = n then 1 else 0) = f c := by
  simp only [mul_ite, mul_one, mul_zero]
  rw [Finset.sum_eq_single c]
  · rw [if_pos hc]
  · intro o _ ho; exact if_neg fun e => ho (Fin.ext (e.trans hc.symm))
  · intro h; exact absurd (Finset.mem_univ _) h

/-! ## The expressions -/

/-- A step's product: the block's positions and samples, flattened, against the stacked weights. -/
theorem pay1_apply (x : FVec Ideal S28x32x2048 .f32) (w : FVec Ideal S2048x48 .f32) (p : Fin 896) (o : Fin 48) :
    k0_pay1 (F := Ideal) x w (ix3 0 p o)
      = ∑ c : Fin 2048, x (ix3 ⟨p.val / 32, by omega⟩ ⟨p.val % 32, by omega⟩ c) * w (ix2 c o) := by
  pointwise [k0_pay1]

/-- The gathered slabs as positions by samples by columns. -/
theorem pay3_apply (S : FVec Ideal S7x896x48 .f32) (n : Fin 196) (b : Fin 32) (o : Fin 48) :
    k0_pay3 (F := Ideal) S (ix3 n b o) = S (ix3 ⟨n.val / 28, by omega⟩ ⟨n.val % 28 * 32 + b.val, by omega⟩ o) := by
  pointwise [k0_pay3]

theorem pay4_eq (x : FVec Ideal S1x48 .f32) : k0_pay4 (F := Ideal) x = x := by
  funext j
  pointwise [k0_pay4]

theorem pay5_word (S : FVec Ideal S7x896x48 .f32) (x2 : FVec Ideal S1x48 .f32) (b : Fin 32) (k : Fin 8) :
    k0_pay5 (F := Ideal) S x2 (ix2 b k)
      = (∑ o : Fin 48, (Finset.fold max (Ideal.ofBits .f32 0xFF800000#32) (fun n => k0_pay3 (F := Ideal) S (ix3 n b o)) Finset.univ + x2 (ix2 0 o))
          * FloatOps.sitofp (F := Ideal) .f32 (classWord o k)) * Ideal.ofBits .f32 0x3E800000#32 := by
  pointwise [k0_pay5, k0_pay4]
  rfl

/-- The first result's block: the mean over the class's four maps of the maximum plus the bias. -/
theorem pay5_apply (S : FVec Ideal S7x896x48 .f32) (x2 : FVec Ideal S1x48 .f32) (b : Fin 32) (k : Fin 8) :
    k0_pay5 (F := Ideal) S x2 (ix2 b k)
      = (∑ j : Fin 4, (Finset.fold max ⊥ (fun n => k0_pay3 (F := Ideal) S (ix3 n b (map4 k j))) Finset.univ + x2 (ix2 0 (map4 k j))))
          * ((1 / 4 : ℝ) : EReal) := by
  rw [pay5_word]
  simp only [classWord_eq, sitofp_ite, Consts.lit_neg_inf, Consts.lit_quarter]
  rw [sum_class]

theorem pay7_apply (y : FVec Ideal S196x32x48 .f32) (b : Fin 32) (o : Fin 48) :
    k0_pay7 (F := Ideal) y (ix2 b o) = ∑ n : Fin 196, y (ix3 n b o) := by
  pointwise [k0_pay7]

/-- The weight of a column in a sample's map: a thirty-second of its class's value, zero past the maps. -/
def weight (v : Fin 8 → EReal) (o : Fin 48) : EReal :=
  (if h : o.val < 32 then v ⟨o.val / 4, by omega⟩ else 0) * ((1 / 32 : ℝ) : EReal)

theorem pay8_word (y : FVec Ideal S196x32x48 .f32) (c : FVec Ideal S1x48 .f32) (v : FVec Ideal S32x8 .f32) (b : Fin 32) (o : Fin 48) :
    k0_pay8 (F := Ideal) y c v (iota .tc S8x48 32 [1] iota_S8x48_d1_w32) (iota .tc S8x48 32 [0] iota_S8x48_d0_w32) 4#32 k0_pay6 0#32 (ix2 b o)
      = ∑ n : Fin 196, y (ix3 n b o)
          * ((∑ p : Fin 48, y (ix3 n b p) * ((∑ k : Fin 8, v (ix2 b k) * FloatOps.sitofp (F := Ideal) .f32 (classWord p k)) * Ideal.ofBits .f32 0x3D000000#32))
            + ∑ p : Fin 48, (∑ k : Fin 8, v (ix2 b k) * FloatOps.sitofp (F := Ideal) .f32 (classWord p k)) * Ideal.ofBits .f32 0x3D000000#32 * c (ix2 0 p)) := by
  pointwise [k0_pay8, k0_pay6]
  rfl

/-- The columns summed over the positions, each position weighted by the sample's map. -/
theorem pay8_apply (y : FVec Ideal S196x32x48 .f32) (c : FVec Ideal S1x48 .f32) (v : FVec Ideal S32x8 .f32) (b : Fin 32) (o : Fin 48) :
    k0_pay8 (F := Ideal) y c v (iota .tc S8x48 32 [1] iota_S8x48_d1_w32) (iota .tc S8x48 32 [0] iota_S8x48_d0_w32) 4#32 k0_pay6 0#32 (ix2 b o)
      = ∑ n : Fin 196, y (ix3 n b o)
          * ((∑ p : Fin 48, y (ix3 n b p) * weight (fun k => v (ix2 b k)) p) + ∑ p : Fin 48, weight (fun k => v (ix2 b k)) p * c (ix2 0 p)) := by
  rw [pay8_word]
  simp only [classWord_eq, sitofp_ite, Consts.lit_32nd, sum_of_class, weight]

theorem pay2_word (y z : FVec Ideal S32x48 .f32) (g : FVec Ideal S1x8 .f32) (b : Fin 32) (k : Fin 8) :
    k0_pay2 (F := Ideal) y z (iota .tc S48x8 32 [0] iota_S48x8_d0_w32) k0_pay9 g (ix2 b k)
      = ((∑ o : Fin 48, y (ix2 b o) * FloatOps.sitofp (F := Ideal) .f32 (columnWord 32#32 o k))
          + ∑ o : Fin 48, z (ix2 b o) * FloatOps.sitofp (F := Ideal) .f32 (columnWord 40#32 o k))
        * Named.named (F := Ideal) κ "inv_hw" (φ := .f32) 0x3BA72F05#32 + g (ix2 0 k) := by
  pointwise [k0_pay2, k0_pay9]
  rfl

/-- The second result's block, from the columns' sums. -/
theorem pay2_apply (y z : FVec Ideal S32x48 .f32) (g : FVec Ideal S1x8 .f32) (b : Fin 32) (k : Fin 8) :
    k0_pay2 (F := Ideal) y z (iota .tc S48x8 32 [0] iota_S48x8_d0_w32) k0_pay9 g (ix2 b k)
      = (y (ix2 b ⟨32 + k.val, by omega⟩) + z (ix2 b ⟨40 + k.val, by omega⟩)) * ((1 / 196 : ℝ) : EReal) + g (ix2 0 k) := by
  rw [pay2_word]
  simp only [columnWord_32_eq, columnWord_40_eq, sitofp_ite, Consts.inv_hw]
  rw [sum_column (fun o => y (ix2 b o)) (32 + k.val) ⟨32 + k.val, by omega⟩ rfl,
    sum_column (fun o => z (ix2 b o)) (40 + k.val) ⟨40 + k.val, by omega⟩ rfl]

end Cert.KernelIdeal.Pool

end
-- ==== Proof.KernelValue.lean ====
module

public import proofs.«01_k».proof.Proof.Arrays
public import proofs.«01_k».proof.Proof.Payloads
public import Idealize.ShloMosaic.Lib.Claim
public import Idealize.ShloMosaic.Lib.StableHlo.ReadAt
public import Idealize.ShloMosaic.Lib.Tactic.CleanTypes

@[expose] public section

set_option maxRecDepth 16384

noncomputable section

/-! What the kernel's two results are, entry by entry, in the arguments. -/

namespace Cert.KernelIdeal.Pool

open Cert.KernelIdeal Cert.KernelIdeal.Gen
open Idealize.ShloMosaic Idealize.ShloMosaic.TcCoe

variable (m : (ℓ : Loc nD τ sig) → Buf (Elt Ideal) ℓ) (d : Dev nD)

/-! ## The arguments -/

/-- The features. -/
def argX : FVec Ideal S64x2048x14x14 .f32 := m ((d.tc : Thread nD τ).loc main_arg0)
/-- The convolution's weights. -/
def argW : FVec Ideal S32x2048 .f32 := m ((d.tc : Thread nD τ).loc main_arg1)
/-- The convolution's bias. -/
def argB : FVec Ideal S32 .f32 := m ((d.tc : Thread nD τ).loc main_arg2)
/-- The last layer's weights. -/
def argU : FVec Ideal S8x4096 .f32 := m ((d.tc : Thread nD τ).loc main_arg3)
/-- The last layer's bias. -/
def argG : FVec Ideal S8 .f32 := m ((d.tc : Thread nD τ).loc main_arg4)

/-! ## The arrays the kernel is called with -/

/-- The stacked weights: the convolution's, then the two halves of the last layer's. -/
def stacked (o : Fin 48) (c : Fin 2048) : EReal :=
  if h : o.val < 32 then argW m d (ix2 ⟨o.val, h⟩ c)
  else if h : o.val - 32 < 8 then argU m d (ix2 ⟨o.val - 32, h⟩ ⟨c.val, by omega⟩)
  else argU m d (ix2 ⟨o.val - 32 - 8, by omega⟩ ⟨2048 + c.val, by omega⟩)

/-- The convolution's bias, then zeros. -/
def bias (o : Fin 48) : EReal := if h : o.val < 32 then argB m d (ix1 ⟨o.val, h⟩) else 0

/-- The features by position, sample and channel. -/
theorem v1_apply (n : Fin 196) (b : Fin 64) (c : Fin 2048) :
    (V m d main_v1 : FVec Ideal S196x64x2048 .f32) (ix3 n b c) = argX m d (ix4 b c ⟨n.val / 14, by omega⟩ ⟨n.val % 14, by omega⟩) := by
  entry_read
  clean_types
  pointwise
  rfl

/-- The stacked weights' array as the operations that make it. -/
theorem v5_eq : (V m d main_v5 : FVec Ideal S2048x48 .f32) = transpose S2048x48 [1, 0] (concatenate S48x2048 0 [⟨S32x2048, argW m d⟩, ⟨S8x2048, extractStridedSlice S8x2048 ![0, 0] (argU m d) slices_S8x4096_S8x2048_0_0⟩,
      ⟨S8x2048, extractStridedSlice S8x2048 ![0, 2048] (argU m d) slices_S8x4096_S8x2048_0_2048⟩] concatenates_S32x2048_S8x2048_S8x2048_S48x2048_d0) transposes_S48x2048_S2048x48_1_0 := by
  have e0 : (StableHlo.upto hostOps0 (fun b => m (d, b)) 4 (Proc.devRef .tc main_arg1) : FVec Ideal S32x2048 .f32) = argW m d := by
    after_reads_simp; rfl
  have e1 : (StableHlo.upto hostOps0 (fun b => m (d, b)) 4 (Proc.devRef .tc main_v2) : FVec Ideal S8x2048 .f32)
      = extractStridedSlice S8x2048 ![0, 0] (argU m d) slices_S8x4096_S8x2048_0_0 := by
    after_reads_simp; rfl
  have e2 : (StableHlo.upto hostOps0 (fun b => m (d, b)) 4 (Proc.devRef .tc main_v3) : FVec Ideal S8x2048 .f32)
      = extractStridedSlice S8x2048 ![0, 2048] (argU m d) slices_S8x4096_S8x2048_0_2048 := by
    after_reads_simp; rfl
  rw [← e0, ← e1, ← e2]
  show (StableHlo.after hostOps0 (fun b => m (d, b)) (Proc.devRef .tc main_v5) : FVec Ideal S2048x48 .f32) = _
  after_reads_simp
  rfl

theorem v5_apply (c : Fin 2048) (o : Fin 48) : (V m d main_v5 : FVec Ideal S2048x48 .f32) (ix2 c o) = stacked m d o c := by
  rw [v5_eq]
  pointwise
  rfl

theorem v8_apply (o : Fin 48) : (V m d main_v8 : FVec Ideal S1x48 .f32) (ix2 0 o) = bias m d o := by
  entry_read
  clean_types
  pointwise
  rfl

theorem v9_apply (k : Fin 8) : (V m d main_v9 : FVec Ideal S1x8 .f32) (ix2 0 k) = argG m d (ix1 k) := by
  entry_read
  clean_types
  pointwise
  rfl

/-! ## The product array -/

/-- The stacked product: position `n`, sample `b`, column `o`. -/
def prod (b : Fin 64) (n : Fin 196) (o : Fin 48) : EReal :=
  ∑ c : Fin 2048, argX m d (ix4 b c ⟨n.val / 14, by omega⟩ ⟨n.val % 14, by omega⟩) * stacked m d o c

/-- The gathered slabs of a sample's half batch hold its products. -/
theorem gather_apply (b : Fin 64) (n : Fin 196) (o : Fin 48) :
    k0_pay3 (F := Ideal) (gather m d (b.val / 32)) (ix3 n (row b) o) = prod m d b n o := by
  rw [pay3_apply]
  show slab m d (7 * (b.val / 32) + n.val / 28) (ValueIdx.ix3 0 ⟨n.val % 28 * 32 + b.val % 32, _⟩ o) = _
  rw [← ix3_eq_valueIdx]
  unfold slab
  rw [pay1_apply]
  refine Finset.sum_congr rfl fun c _ => ?_
  rw [show iblk m d 1 (pt (7 * (b.val / 32) + n.val / 28)) = V m d main_v5 from iblk_1 m d _, v5_apply]
  congr 1
  rw [← v1_apply]
  have hp : (pt (7 * (b.val / 32) + n.val / 28)).val = 7 * (b.val / 32) + n.val / 28 := by
    show (7 * (b.val / 32) + n.val / 28) % 14 = _
    omega
  refine iblk_0 m d _ _ (ix3 n b c) ?_ ?_ rfl
  · rw [hp]
    show n.val = (7 * (b.val / 32) + n.val / 28) % 7 * 28 + (n.val % 28 * 32 + b.val % 32) / 32
    omega
  · rw [hp]
    show b.val = (7 * (b.val / 32) + n.val / 28) / 7 * 32 + (n.val % 28 * 32 + b.val % 32) % 32
    omega

/-! ## The results -/

/-- A half batch's first result, from its products `y` of the row and its bias `β`. -/
theorem outXv_apply (S : FVec Ideal S7x896x48 .f32) (x2 : FVec Ideal S1x48 .f32) (b : Fin 32) (y : Fin 196 → Fin 48 → EReal) (β : Fin 48 → EReal)
    (hy : ∀ n o, k0_pay3 (F := Ideal) S (ix3 n b o) = y n o) (hβ : ∀ o, x2 (ix2 0 o) = β o) (k : Fin 8) :
    outXv (F := Ideal) S x2 (ix2 b k) = (∑ j : Fin 4, (Finset.fold max ⊥ (fun n => y n (map4 k j)) Finset.univ + β (map4 k j))) * ((1 / 4 : ℝ) : EReal) := by
  show k0_pay5 (F := Ideal) S x2 (ix2 b k) = _
  rw [pay5_apply]
  simp only [hy, hβ]

/-- A half batch's second result, from its products `y` of the row, its bias `β`, the row's first result `v` and the
    last layer's bias `g`. -/
theorem outRes_apply (S : FVec Ideal S7x896x48 .f32) (x2 : FVec Ideal S1x48 .f32) (x3 : FVec Ideal S1x8 .f32) (b : Fin 32)
    (y : Fin 196 → Fin 48 → EReal) (β : Fin 48 → EReal) (v g : Fin 8 → EReal)
    (hy : ∀ n o, k0_pay3 (F := Ideal) S (ix3 n b o) = y n o) (hβ : ∀ o, x2 (ix2 0 o) = β o)
    (hv : ∀ k, outXv (F := Ideal) S x2 (ix2 b k) = v k) (hg : ∀ k, x3 (ix2 0 k) = g k) (k : Fin 8) :
    outRes (F := Ideal) S x2 x3 (ix2 b k)
      = ((∑ n : Fin 196, y n ⟨32 + k.val, by omega⟩)
          + ∑ n : Fin 196, y n ⟨40 + k.val, by omega⟩ * ((∑ p : Fin 48, y n p * weight v p) + ∑ p : Fin 48, weight v p * β p))
        * ((1 / 196 : ℝ) : EReal) + g k := by
  have hx : ∀ k : Fin 8, k0_pay5 (F := Ideal) S x2 (ix2 b k) = v k := hv
  unfold outRes
  rw [pay2_apply, pay7_apply, pay8_apply, pay4_eq]
  simp only [hy, hβ, hx, hg]

/-- The kernel's first result. -/
theorem arrXv_apply (b : Fin 64) (k : Fin 8) :
    arrXv m d (ix2 b k)
      = (∑ j : Fin 4, (Finset.fold max ⊥ (fun n => prod m d b n (map4 k j)) Finset.univ + bias m d (map4 k j))) * ((1 / 4 : ℝ) : EReal) :=
  outXv_apply _ _ (row b) (prod m d b) (bias m d) (gather_apply m d b) (v8_apply m d) k

/-- The kernel's second result. -/
theorem arrRes_apply (b : Fin 64) (k : Fin 8) :
    arrRes m d (ix2 b k)
      = ((∑ n : Fin 196, prod m d b n ⟨32 + k.val, by omega⟩)
          + ∑ n : Fin 196, prod m d b n ⟨40 + k.val, by omega⟩
            * ((∑ p : Fin 48, prod m d b n p * weight (fun k => arrXv m d (ix2 b k)) p) + ∑ p : Fin 48, weight (fun k => arrXv m d (ix2 b k)) p * bias m d p))
        * ((1 / 196 : ℝ) : EReal) + argG m d (ix1 k) :=
  outRes_apply _ _ _ (row b) (prod m d b) (bias m d) (fun k => arrXv m d (ix2 b k)) (fun k => argG m d (ix1 k))
    (gather_apply m d b) (v8_apply m d) (fun _ => rfl) (v9_apply m d) k

end Cert.KernelIdeal.Pool

end
-- ==== Proof.Algebra.lean ====
module

public import Mathlib.Data.EReal.Operations
public import Mathlib.Algebra.BigOperators.Fin
public import Mathlib.Data.Finset.Fold
public import Mathlib.Data.Finset.Lattice.Fold
public import Mathlib.Logic.Equiv.Fin.Basic
public import Mathlib.Tactic.Ring

@[expose] public section

noncomputable section

/-! The sums and maxima by which the two programs' results agree, free of both programs. -/

namespace Cert.Algebra

open Finset

/-! ## Positions -/

/-- A sum over the 196 positions is a sum over rows and columns. -/
theorem sum_pos {M : Type} [AddCommMonoid M] (f : Fin 14 → Fin 14 → M) :
    ∑ n : Fin 196, f ⟨n.val / 14, by omega⟩ ⟨n.val % 14, by omega⟩ = ∑ h : Fin 14, ∑ w : Fin 14, f h w := by
  rw [← Fintype.sum_prod_type']
  exact Fintype.sum_equiv (finProdFinEquiv (m := 14) (n := 14)).symm _ _ fun n => rfl

/-- The largest of the 196 positions' values is the largest over rows and columns. -/
theorem sup_pos (f : Fin 14 → Fin 14 → EReal) :
    (univ : Finset (Fin 196)).sup (fun n => f ⟨n.val / 14, by omega⟩ ⟨n.val % 14, by omega⟩)
      = (univ : Finset (Fin 14 × Fin 14)).sup fun p => f p.1 p.2 := by
  have e : (univ : Finset (Fin 14 × Fin 14)) = (univ : Finset (Fin (14 * 14))).map (finProdFinEquiv (m := 14) (n := 14)).symm.toEmbedding :=
    (map_univ_equiv _).symm
  rw [e, sup_map]
  rfl

theorem fold_max_eq_sup {ι : Type} (s : Finset ι) (f : ι → EReal) : s.fold max ⊥ f = s.sup f := rfl

/-- The maximum of the values plus a constant is the maximum plus the constant. -/
theorem sup_add {ι : Type} (s : Finset ι) (f : ι → EReal) (a : EReal) : s.sup f + a = s.sup fun i => f i + a :=
  apply_sup_eq_sup_comp_of_linearOrder (fun x => x + a) (fun _ _ h => add_le_add_left h a) (EReal.bot_add a)

/-! ## Real sums as extended real sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The largest of finitely many, at least one, real numbers is a real number. -/
theorem sup_real {ι : Type} (s : Finset ι) (hs : s.Nonempty) (f : ι → EReal) (hf : ∀ i, ∃ r : ℝ, f i = r) : ∃ r : ℝ, s.sup f = r := by
  obtain ⟨i, _, hi⟩ := exists_mem_eq_sup s hs f
  rw [hi]
  exact hf i

theorem sum_real {ι : Type} (s : Finset ι) (f : ι → EReal) (hf : ∀ i, ∃ r : ℝ, f i = r) : ∃ r : ℝ, ∑ i ∈ s, f i = r := by
  choose g hg using hf
  exact ⟨∑ i ∈ s, g i, by rw [coe_sum]; exact sum_congr rfl fun i _ => hg i⟩

/-! ## The maps' columns -/

/-- A sum over the 48 columns that vanishes past the 32 maps is a sum over the maps. -/
theorem sum_maps (f : Fin 48 → EReal) (hf : ∀ o : Fin 48, ¬o.val < 32 → f o = 0) :
    ∑ o : Fin 48, f o = ∑ o : Fin 32, f ⟨o.val, by omega⟩ := by
  have z : ∑ o : Fin 16, f (Fin.natAdd 32 o) = 0 :=
    sum_eq_zero fun o _ => hf (Fin.natAdd 32 o) (Nat.not_lt.mpr (Nat.le_add_right 32 o.val))
  rw [show (∑ o : Fin 48, f o) = _ from Fin.sum_univ_add (a := 32) (b := 16) f, z, add_zero]
  rfl

/-- A sum over the 32 maps is a sum over the classes of sums over each one's four maps. -/
theorem sum_classes (f : Fin 32 → ℝ) :
    ∑ o : Fin 32, f o = ∑ k : Fin 8, ∑ j : Fin 4, f ⟨k.val * 4 + j.val, by omega⟩ := by
  rw [← Fintype.sum_prod_type']
  refine Fintype.sum_equiv (finProdFinEquiv (m := 8) (n := 4)).symm _ _ fun o => congrArg f (Fin.ext ?_)
  show o.val = o.val / 4 * 4 + o.val % 4
  omega

/-! ## The two identities -/

/-- One position's weight: the maps' products with the folded coefficients, and the bias's, are the mean over the
    classes of the mean of each class's four maps, bias included, times the class's value. -/
theorem map_eq (x : Fin 2048 → ℝ) (w : Fin 32 → Fin 2048 → ℝ) (β : Fin 32 → ℝ) (v : Fin 8 → ℝ) :
    (∑ o : Fin 32, (∑ c, x c * w o c) * (v ⟨o.val / 4, by omega⟩ * (1 / 32))) + ∑ o : Fin 32, v ⟨o.val / 4, by omega⟩ * (1 / 32) * β o
      = (∑ k : Fin 8, (∑ j : Fin 4, ((∑ c, w ⟨k.val * 4 + j.val, by omega⟩ c * x c) + β ⟨k.val * 4 + j.val, by omega⟩)) * (1 / 4) * v k) * (1 / 8) := by
  rw [← sum_add_distrib, sum_classes, sum_mul]
  refine sum_congr rfl fun k _ => ?_
  rw [sum_mul, sum_mul, sum_mul]
  refine sum_congr rfl fun j _ => ?_
  have e : (⟨(k.val * 4 + j.val) / 4, by omega⟩ : Fin 8) = k := Fin.ext (by show (k.val * 4 + j.val) / 4 = k.val; omega)
  simp only [e]
  rw [sum_congr rfl fun c _ => mul_comm (x c) (w ⟨k.val * 4 + j.val, by omega⟩ c)]
  ring

/-- The last layer over averaged features is the average of the last layer over features, the features plain
    in one half and weighted by the position's weight `s` in the other. -/
theorem mean_eq (x : Fin 2048 → Fin 196 → ℝ) (u₁ u₂ : Fin 2048 → ℝ) (s : Fin 196 → ℝ) :
    ((∑ n, ∑ c, x c n * u₁ c) + ∑ n, (∑ c, x c n * u₂ c) * s n) * (1 / 196)
      = (∑ c, (∑ n, x c n) * (1 / 196) * u₁ c) + ∑ c, (∑ n, s n * x c n) * (1 / 196) * u₂ c := by
  rw [add_mul, sum_comm]
  congr 1
  · rw [sum_mul]
    refine sum_congr rfl fun c _ => ?_
    rw [← sum_mul]; ring
  · simp only [sum_mul]
    rw [sum_comm]
    exact sum_congr rfl fun c _ => sum_congr rfl fun n _ => by ring

end Cert.Algebra

end
-- ==== Proof.Equation.lean ====
module

public import proofs.«01_k».proof.Proof.KernelValue
public import proofs.«01_k».proof.Proof.Reference
public import proofs.«01_k».proof.Proof.Algebra

@[expose] public section

set_option maxRecDepth 16384

noncomputable section

/-! The kernel's two results are the reference's. -/

namespace Cert.Equation

open Idealize.ShloMosaic Idealize.ShloMosaic.TcCoe
open Cert.KernelIdeal (nD τ sig S64x2048x14x14 S32x2048 S32 S8x4096 S8 S64x8)
open Cert.KernelIdeal.Pool
open Cert.ReferenceIdeal.Entry (conv xv classMap attn gap res)

variable (m : (ℓ : Loc nD τ sig) → Buf (Elt Ideal) ℓ) (d : Dev nD)

/-! ## The columns -/

theorem stacked_map (o : Fin 48) (ho : o.val < 32) (c : Fin 2048) : stacked m d o c = argW m d (ix2 ⟨o.val, ho⟩ c) := dif_pos ho

theorem stacked_first (k : Fin 8) (c : Fin 2048) : stacked m d ⟨32 + k.val, by omega⟩ c = argU m d (ix2 k ⟨c.val, by omega⟩) := by
  unfold stacked
  rw [dif_neg (by simp), dif_pos (by simp)]
  have e : (⟨32 + k.val - 32, by omega⟩ : Fin 8) = k := Fin.ext (by simp)
  simp only [e]

theorem stacked_second (k : Fin 8) (c : Fin 2048) : stacked m d ⟨40 + k.val, by omega⟩ c = argU m d (ix2 k ⟨2048 + c.val, by omega⟩) := by
  unfold stacked
  rw [dif_neg (by simp; omega), dif_neg (by simp; omega)]
  have e : (⟨40 + k.val - 32 - 8, by omega⟩ : Fin 8) = k := Fin.ext (by simp; omega)
  simp only [e]

/-! ## The first result -/

/-- A map's product plus its bias is the reference's convolution. -/
theorem prod_add_bias (b : Fin 64) (n : Fin 196) (k : Fin 8) (j : Fin 4) :
    prod m d b n (map4 k j) + bias m d (map4 k j)
      = conv (argX m d) (argW m d) (argB m d) (ix4 b (Cert.ReferenceIdeal.Entry.map4 k j) ⟨n.val / 14, by omega⟩ ⟨n.val % 14, by omega⟩) := by
  have ho : (map4 k j).val < 32 := by show k.val * 4 + j.val < 32; omega
  rw [Cert.ReferenceIdeal.Entry.conv_apply]
  unfold prod bias
  rw [dif_pos ho]
  congr 1
  exact Finset.sum_congr rfl fun c _ => by rw [stacked_map m d _ ho, mul_comm]; rfl

theorem xv_entry (b : Fin 64) (k : Fin 8) :
    arrXv m d (ix2 b k) = xv (argX m d) (argW m d) (argB m d) (ix2 b k) := by
  rw [arrXv_apply, Cert.ReferenceIdeal.Entry.xv_apply]
  congr 1
  refine Finset.sum_congr rfl fun j _ => ?_
  rw [Algebra.fold_max_eq_sup, Algebra.fold_max_eq_sup, Algebra.sup_add]
  simp only [prod_add_bias]
  exact Algebra.sup_pos fun h w => conv (argX m d) (argW m d) (argB m d) (ix4 b (Cert.ReferenceIdeal.Entry.map4 k j) h w)

theorem xv_eq : arrXv m d = xv (argX m d) (argW m d) (argB m d) := by
  funext i
  idx_vars i
  exact xv_entry m d _ _

/-! ## The second result, over real arguments -/

/-- The last layer's second result when the first four arguments' entries are real numbers. -/
theorem res_entry (hX : ∀ i, ∃ r : ℝ, argX m d i = r) (hW : ∀ i, ∃ r : ℝ, argW m d i = r) (hB : ∀ i, ∃ r : ℝ, argB m d i = r)
    (hU : ∀ i, ∃ r : ℝ, argU m d i = r) (b : Fin 64) (k : Fin 8) :
    arrRes m d (ix2 b k) = res (argX m d) (argW m d) (argB m d) (argU m d) (argG m d) (ix2 b k) := by
  choose X eX using hX
  choose W eW using hW
  choose B eB using hB
  choose U eU using hU
  have hconv : ∀ (o : Fin 32) (h w : Fin 14), conv (argX m d) (argW m d) (argB m d) (ix4 b o h w)
      = (((∑ c : Fin 2048, W (ix2 o c) * X (ix4 b c h w)) + B (ix1 o) : ℝ) : EReal) := fun o h w => by
    rw [Cert.ReferenceIdeal.Entry.conv_apply]
    simp only [eX, eW, eB, EReal.coe_add, Algebra.coe_sum, EReal.coe_mul]
  have hxv : ∀ k : Fin 8, ∃ r : ℝ, xv (argX m d) (argW m d) (argB m d) (ix2 b k) = r := fun k => by
    rw [Cert.ReferenceIdeal.Entry.xv_apply]
    obtain ⟨r, hr⟩ := Algebra.sum_real Finset.univ _ fun j : Fin 4 =>
      Algebra.sup_real Finset.univ ⟨(0, 0), Finset.mem_univ _⟩ (fun p : Fin 14 × Fin 14 => conv (argX m d) (argW m d) (argB m d) (ix4 b (Cert.ReferenceIdeal.Entry.map4 k j) p.1 p.2))
        fun p => ⟨_, hconv _ _ _⟩
    exact ⟨r * (1 / 4), by rw [EReal.coe_mul, ← hr]; rfl⟩
  choose v ev using hxv
  have hweight : ∀ o : Fin 32, weight (fun k => arrXv m d (ix2 b k)) ⟨o.val, by omega⟩ = ((v ⟨o.val / 4, by omega⟩ * (1 / 32) : ℝ) : EReal) := fun o => by
    unfold weight
    rw [dif_pos o.isLt]
    show arrXv m d (ix2 b ⟨o.val / 4, _⟩) * _ = _
    rw [xv_entry, ev, EReal.coe_mul]
  have hweight0 : ∀ o : Fin 48, ¬o.val < 32 → weight (fun k => arrXv m d (ix2 b k)) o = 0 := fun o ho => by
    unfold weight
    rw [dif_neg ho, zero_mul]
  let x : Fin 2048 → Fin 196 → ℝ := fun c n => X (ix4 b c ⟨n.val / 14, by omega⟩ ⟨n.val % 14, by omega⟩)
  let w : Fin 32 → Fin 2048 → ℝ := fun o c => W (ix2 o c)
  let β : Fin 32 → ℝ := fun o => B (ix1 o)
  let u₁ : Fin 2048 → ℝ := fun c => U (ix2 k ⟨c.val, by omega⟩)
  let u₂ : Fin 2048 → ℝ := fun c => U (ix2 k ⟨2048 + c.val, by omega⟩)
  let s : Fin 196 → ℝ := fun n =>
    (∑ k : Fin 8, (∑ j : Fin 4, ((∑ c, w ⟨k.val * 4 + j.val, by omega⟩ c * x c n) + β ⟨k.val * 4 + j.val, by omega⟩)) * (1 / 4) * v k) * (1 / 8)
  -- the kernel's parts
  have hprod : ∀ (n : Fin 196) (o : Fin 32), prod m d b n ⟨o.val, by omega⟩ = ((∑ c, x c n * w o c : ℝ) : EReal) := fun n o => by
    unfold prod
    simp only [Algebra.coe_sum, EReal.coe_mul]
    exact Finset.sum_congr rfl fun c _ => by rw [stacked_map m d _ o.isLt, eX, eW]
  have hprod₁ : ∀ n : Fin 196, prod m d b n ⟨32 + k.val, by omega⟩ = ((∑ c, x c n * u₁ c : ℝ) : EReal) := fun n => by
    unfold prod
    simp only [Algebra.coe_sum, EReal.coe_mul]
    exact Finset.sum_congr rfl fun c _ => by rw [stacked_first, eX, eU]
  have hprod₂ : ∀ n : Fin 196, prod m d b n ⟨40 + k.val, by omega⟩ = ((∑ c, x c n * u₂ c : ℝ) : EReal) := fun n => by
    unfold prod
    simp only [Algebra.coe_sum, EReal.coe_mul]
    exact Finset.sum_congr rfl fun c _ => by rw [stacked_second, eX, eU]
  have hbias : ∀ o : Fin 32, bias m d ⟨o.val, by omega⟩ = (β o : EReal) := fun o => by
    unfold bias
    rw [dif_pos o.isLt]
    exact eB _
  have hmap : ∀ n : Fin 196, (∑ p : Fin 48, prod m d b n p * weight (fun k => arrXv m d (ix2 b k)) p)
      + ∑ p : Fin 48, weight (fun k => arrXv m d (ix2 b k)) p * bias m d p = (s n : EReal) := fun n => by
    rw [Algebra.sum_maps (fun p => prod m d b n p * weight (fun k => arrXv m d (ix2 b k)) p) fun o ho => by simp only [hweight0 o ho, mul_zero],
      Algebra.sum_maps (fun p => weight (fun k => arrXv m d (ix2 b k)) p * bias m d p) fun o ho => by simp only [hweight0 o ho, zero_mul]]
    simp only [hprod, hweight, hbias]
    simp only [← EReal.coe_mul, ← Algebra.coe_sum, ← EReal.coe_add]
    exact congrArg _ (Algebra.map_eq (fun c => x c n) w β v)
  -- the reference's parts
  have hclass : ∀ (n : Fin 196) (k : Fin 8), classMap (argX m d) (argW m d) (argB m d) (ix4 b k ⟨n.val / 14, by omega⟩ ⟨n.val % 14, by omega⟩)
      = (((∑ j : Fin 4, ((∑ c, w ⟨k.val * 4 + j.val, by omega⟩ c * x c n) + β ⟨k.val * 4 + j.val, by omega⟩)) * (1 / 4) : ℝ) : EReal) := fun n k => by
    rw [Cert.ReferenceIdeal.Entry.classMap_apply, EReal.coe_mul, Algebra.coe_sum]
    congr 1
    exact Finset.sum_congr rfl fun j _ => hconv _ _ _
  have hattn : ∀ n : Fin 196, attn (argX m d) (argW m d) (argB m d) (ix4 b 0 ⟨n.val / 14, by omega⟩ ⟨n.val % 14, by omega⟩) = (s n : EReal) := fun n => by
    rw [Cert.ReferenceIdeal.Entry.attn_apply, EReal.coe_mul, Algebra.coe_sum]
    congr 1
    exact Finset.sum_congr rfl fun k _ => by rw [hclass, ev, ← EReal.coe_mul]
  have hplain : ∀ c : Fin 2048, (∑ h : Fin 14, ∑ w : Fin 14, argX m d (ix4 b c h w)) = ((∑ n, x c n : ℝ) : EReal) := fun c => by
    rw [← Algebra.sum_pos fun h w => argX m d (ix4 b c h w), Algebra.coe_sum]
    exact Finset.sum_congr rfl fun n _ => eX _
  have hweighted : ∀ c : Fin 2048, (∑ h : Fin 14, ∑ w : Fin 14, attn (argX m d) (argW m d) (argB m d) (ix4 b 0 h w) * argX m d (ix4 b c h w))
      = ((∑ n, s n * x c n : ℝ) : EReal) := fun c => by
    rw [← Algebra.sum_pos fun h w => attn (argX m d) (argW m d) (argB m d) (ix4 b 0 h w) * argX m d (ix4 b c h w), Algebra.coe_sum]
    exact Finset.sum_congr rfl fun n _ => by rw [hattn, eX, ← EReal.coe_mul]
  rw [arrRes_apply, Cert.ReferenceIdeal.Entry.res_apply]
  congr 1
  simp only [hmap, hprod₁, hprod₂, hplain, hweighted, eU]
  simp only [← EReal.coe_mul, ← Algebra.coe_sum, ← EReal.coe_add]
  exact congrArg _ (Algebra.mean_eq x u₁ u₂ s)

theorem res_eq (hX : ∀ i, ∃ r : ℝ, argX m d i = r) (hW : ∀ i, ∃ r : ℝ, argW m d i = r) (hB : ∀ i, ∃ r : ℝ, argB m d i = r)
    (hU : ∀ i, ∃ r : ℝ, argU m d i = r) :
    arrRes m d = res (argX m d) (argW m d) (argB m d) (argU m d) (argG m d) := by
  funext i
  idx_vars i
  exact res_entry m d hX hW hB hU _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frame
public import proofs.«01_k».proof.Proof.KernelFrame
public import proofs.«01_k».proof.Proof.Arrays
public import proofs.«01_k».proof.Proof.Reference
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- The reference's arguments end unchanged; it declares no semaphore. -/
theorem reference_quiescent : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The reference's run from memories that hold the kernel's arguments: its results are the kernel's arrays. -/
theorem reference_run (m : (ℓ : Loc Cert.KernelIdeal.nD Cert.KernelIdeal.τ Cert.KernelIdeal.sig) → Buf (Elt Ideal) ℓ)
    (c : Dev Cert.KernelIdeal.nD) (X : FVec Ideal Cert.ReferenceIdeal.S64x2048x14x14 .f32) (W : FVec Ideal Cert.ReferenceIdeal.S32x2048 .f32)
    (B : FVec Ideal Cert.ReferenceIdeal.S32 .f32) (U : FVec Ideal Cert.ReferenceIdeal.S8x4096 .f32) (G : FVec Ideal Cert.ReferenceIdeal.S8 .f32)
    (hX : X = Cert.KernelIdeal.Pool.argX m c) (hW : W = Cert.KernelIdeal.Pool.argW m c) (hB : B = Cert.KernelIdeal.Pool.argB m c)
    (hU : U = Cert.KernelIdeal.Pool.argU m c) (hG : G = Cert.KernelIdeal.Pool.argG m c) (hfin : Cert.Pre_KernelIdeal_finite m) :
    Cert.ReferenceIdeal.Entry.xv X W B = Cert.KernelIdeal.Pool.arrXv m c
      ∧ Cert.ReferenceIdeal.Entry.res X W B U G = Cert.KernelIdeal.Pool.arrRes m c := by
  subst hX hW hB hU hG
  obtain ⟨h0, h1, h2, h3⟩ := Cert.Finite.entries _ _ _ _ _ (hfin c)
  exact ⟨(Cert.Equation.xv_eq m c).symm, (Cert.Equation.res_eq m c h0 h1 h2 h3).symm⟩

/-- Both programs end with the same two arrays. -/
theorem results_equal : Cert.algebraic_KernelIdeal_ReferenceIdeal_pre_finite := by
  intro m g m' g' hfin hargs
  refine ⟨fun c => Cert.KernelIdeal.Pool.arrXv m c, fun c => Cert.KernelIdeal.Pool.arrRes m c, Cert.KernelIdeal.Pool.run m g, ?_⟩
  refine (θ_run Cert.ReferenceIdeal.defs _ _).mono (fun r h c => ?_) (Cert.ReferenceIdeal.Value.run (F := Ideal) m' g')
  obtain ⟨e0, e1, e2, e3, e4⟩ := hargs c
  have e := reference_run m c _ _ _ _ _ e0 e1 e2 e3 e4 hfin
  exact ⟨(h c).1.trans e.1, (h c).2.1.trans e.2, (h c).2.2⟩

theorem claim : Cert.Claim := ⟨Cert.Kernel.Gen.facts, Cert.KernelIdeal.Gen.facts, Cert.ReferenceIdeal.Gen.facts, Cert.Pre_finite.Gen.facts,
  Cert.Kernel.Pool.quiescent,
  fun m g _ => Cert.KernelIdeal.Pool.frame m g,
  fun m g _ => Cert.KernelIdeal.Pool.frame m g,
  reference_quiescent,
  fun m g _ => reference_quiescent m g trivial,
  IdealRules.named_const.statement Cert.KernelIdeal.κ "inv_hw" .f32 0x3BA72F05#32 ((1 / 196 : ℝ) : EReal) rfl,
  results_equal⟩

end Cert.Proof

end
